-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_qk [hPre_finite_qk : Cert.Pre_finite_qk.Facts] (m : (ℓ : Loc Cert.KernelIdeal.nD Cert.KernelIdeal.τ Cert.KernelIdeal.sig) → Buf (Elt Ideal) ℓ) : Prop :=
  ∀ c : Dev Cert.KernelIdeal.nD,
    (Cert.Pre_finite_qk.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_qk [hPre_finite_qk : Cert.Pre_finite_qk.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_qk.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_qk [hKernelIdeal : Cert.KernelIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_qk m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_qk [hReferenceIdeal : Cert.ReferenceIdeal.Facts] [hPre_finite_qk : Cert.Pre_finite_qk.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_qk m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  IdealRules.named_const.Statement Cert.KernelIdeal.κ "scale_log2e" .f32 0x3E0293EE#32 (((Real.sqrt 128)⁻¹ * (Real.log 2)⁻¹ : ℝ) : EReal)
  ∧ IdealRules.named_const.Statement Cert.KernelIdeal.κ "mask" .f32 0xF149F2CA#32 ⊥

def algebraic_KernelIdeal_ReferenceIdeal_pre_finite_qk [hKernelIdeal : Cert.KernelIdeal.Facts] [hReferenceIdeal : Cert.ReferenceIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_qk m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_qk : Cert.Pre_finite_qk.Facts),
    quiescent_Kernel (hKernel := hKernel)
    ∧ quiescent_KernelIdeal (hKernelIdeal := hKernelIdeal)
    ∧ quiescent_KernelIdeal_pre_finite_qk (hKernelIdeal := hKernelIdeal) (hPre_finite_qk := hPre_finite_qk)
    ∧ quiescent_ReferenceIdeal (hReferenceIdeal := hReferenceIdeal)
    ∧ quiescent_ReferenceIdeal_pre_finite_qk (hReferenceIdeal := hReferenceIdeal) (hPre_finite_qk := hPre_finite_qk)
    ∧ preserves_Kernel_KernelIdeal
    ∧ algebraic_KernelIdeal_ReferenceIdeal_pre_finite_qk (hKernelIdeal := hKernelIdeal) (hReferenceIdeal := hReferenceIdeal) (hPre_finite_qk := hPre_finite_qk)
-- ==== Pre_finite_qk.lean ====
abbrev S4096x16x128 : Shape := ⟨3, ![4096, 16, 128]⟩
abbrev S4096x4x128 : Shape := ⟨3, ![4096, 4, 128]⟩
abbrev S5 : Shape := ⟨1, ![5]⟩
abbrev S_ : Shape := ⟨0, ![]⟩

class Facts : Prop where
  bcast_S_S4096x16x128 : S_.BroadcastsInDim S4096x16x128 (![] : Fin 0 → Fin S4096x16x128.rank)
  reducesTo_S4096x16x128_S_d0_1_2 : S4096x16x128.ReducesTo [0, 1, 2] S_
  h_S_ : 0 < S_.numel
  bcast_S_S4096x4x128 : S_.BroadcastsInDim S4096x4x128 (![] : Fin 0 → Fin S4096x4x128.rank)
  reducesTo_S4096x4x128_S_d0_1_2 : S4096x4x128.ReducesTo [0, 1, 2] S_

variable [Facts]

def fn {F : FTy → Type} [FloatOps F] (main_arg0 : FVec F S4096x16x128 .f32) (main_arg1 : FVec F S4096x4x128 .f32) (main_arg2 : FVec F S4096x4x128 .f32) (main_arg3 : IVec S5 32) : IVec S_ 1 :=
  let main_v0 : FVec F S4096x16x128 .f32 := Host.absf main_arg0
  let main_cst : FVec F S_ .f32 := constant S_ .f32 0x7F800000#32
  let main_v1 : FVec F S4096x16x128 .f32 := broadcastInDim S4096x16x128 ![] bcast_S_S4096x16x128 main_cst
  let main_v2 : IVec S4096x16x128 1 := cmpf .olt main_v0 main_v1
  let main_c : IVec S_ 1 := constantI S_ 1 1#1
  let main_v3 : IVec S_ 1 := (fun x v => Host.reduce IntOp.andi x v reducesTo_S4096x16x128_S_d0_1_2 h_S_) main_v2 main_c
  let main_v4 : FVec F S4096x4x128 .f32 := Host.absf main_arg1
  let main_cst_0 : FVec F S_ .f32 := constant S_ .f32 0x7F800000#32
  let main_v5 : FVec F S4096x4x128 .f32 := broadcastInDim S4096x4x128 ![] bcast_S_S4096x4x128 main_cst_0
  let main_v6 : IVec S4096x4x128 1 := cmpf .olt main_v4 main_v5
  let main_c_1 : IVec S_ 1 := constantI S_ 1 1#1
  let main_v7 : IVec S_ 1 := (fun x v => Host.reduce IntOp.andi x v reducesTo_S4096x4x128_S_d0_1_2 h_S_) main_v6 main_c_1
  let main_v8 : IVec S_ 1 := andi main_v3 main_v7
  main_v8
-- ==== Kernel.lean ====
abbrev S4096x16x128 : Shape := ⟨3, ![4096, 16, 128]⟩
abbrev S4096x4x128 : Shape := ⟨3, ![4096, 4, 128]⟩
abbrev S5 : Shape := ⟨1, ![5]⟩
abbrev S4x1024x2048 : Shape := ⟨3, ![4, 1024, 2048]⟩
abbrev S4x1024x512 : Shape := ⟨3, ![4, 1024, 512]⟩
abbrev S1x256x2048 : Shape := ⟨3, ![1, 256, 2048]⟩
abbrev S1x1024x512 : Shape := ⟨3, ![1, 1024, 512]⟩
abbrev S1024x256 : Shape := ⟨2, ![1024, 256]⟩
abbrev S1x256x128 : Shape := ⟨3, ![1, 256, 128]⟩
abbrev S256x128 : Shape := ⟨2, ![256, 128]⟩
abbrev S1024x128 : Shape := ⟨2, ![1024, 128]⟩
abbrev S1024x1 : Shape := ⟨2, ![1024, 1]⟩
abbrev S1024 : Shape := ⟨1, ![1024]⟩

abbrev nBuf : Space → Nat
  | .hbm => 11
  | .vmem => 8
  | .smem => 0
  | _ => 0

abbrev bufTy : (tb : Table) → Fin (tcTables nBuf tb) → BufTy
  | .hbm, ⟨0, _⟩ => ⟨S4096x16x128, .f32⟩
  | .hbm, ⟨1, _⟩ => ⟨S4096x4x128, .f32⟩
  | .hbm, ⟨2, _⟩ => ⟨S4096x4x128, .f32⟩
  | .hbm, ⟨3, _⟩ => ⟨S5, .i32⟩
  | .hbm, ⟨4, _⟩ => ⟨S4x1024x2048, .f32⟩
  | .hbm, ⟨5, _⟩ => ⟨S4x1024x512, .f32⟩
  | .hbm, ⟨6, _⟩ => ⟨S4x1024x512, .bf16⟩
  | .hbm, ⟨7, _⟩ => ⟨S4x1024x512, .f32⟩
  | .hbm, ⟨8, _⟩ => ⟨S4x1024x512, .bf16⟩
  | .hbm, ⟨9, _⟩ => ⟨S4x1024x2048, .f32⟩
  | .hbm, ⟨10, _⟩ => ⟨S4096x16x128, .f32⟩
  | .local _ .vmem, ⟨0, _⟩ => ⟨S1x256x2048, .f32⟩
  | .local _ .vmem, ⟨1, _⟩ => ⟨S1x256x2048, .f32⟩
  | .local _ .vmem, ⟨2, _⟩ => ⟨S1x1024x512, .bf16⟩
  | .local _ .vmem, ⟨3, _⟩ => ⟨S1x1024x512, .bf16⟩
  | .local _ .vmem, ⟨4, _⟩ => ⟨S1x1024x512, .bf16⟩
  | .local _ .vmem, ⟨5, _⟩ => ⟨S1x1024x512, .bf16⟩
  | .local _ .vmem, ⟨6, _⟩ => ⟨S1x256x2048, .f32⟩
  | .local _ .vmem, ⟨7, _⟩ => ⟨S1x256x2048, .f32⟩
  | _, _ => ⟨S4096x16x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 4], ![false, false]⟩

@[reducible] def k0_t1_loop (i : grid0.Coords) : Scf.Loop 32 :=
  let c0_i32_18 : BitVec 32 := 0#32
  let arg1 : BitVec 32 := BitVec.ofNat 32 (i 1).val
  let v37 : BitVec 32 := Scalar.subi arg1 c0_i32_18
  let c1_i32_19 : BitVec 32 := 1#32
  let v39 : BitVec 32 := Scalar.divsi v37 c1_i32_19
  let v40 : BitVec 32 := Scalar.muli v39 c1_i32_19
  let v41 : BitVec 32 := Scalar.addi c0_i32_18 v40
  let c1_i32_20 : BitVec 32 := 1#32
  ⟨c0_i32_18, v41, c1_i32_20⟩
def k0_off1 (i : grid0.Coords) (k0_t1 : Fin (k0_t1_loop i).trips) : Fin 3 → Nat :=
  let c0_160 : Index := 0#32
  let c0_i32_18 : BitVec 32 := 0#32
  let c1_i32_20 : BitVec 32 := 1#32
  let arg6 : BitVec 32 := Scf.iv c0_i32_18 c1_i32_20 k0_t1
  let c1_i32_158 : BitVec 32 := 1#32
  let v283 : BitVec 32 := Scalar.addi arg6 c1_i32_158
  let c256_i32_159 : BitVec 32 := 256#32
  let v284 : BitVec 32 := Scalar.muli v283 c256_i32_159
  let v285 : Index := Scalar.indexCast v284
  let c0_161 : Index := 0#32
  ![0, v285.toNat, 0]
def k0_off2 (i : grid0.Coords) (k0_t1 : Fin (k0_t1_loop i).trips) : Fin 3 → Nat :=
  let c0_164 : Index := 0#32
  let c0_i32_18 : BitVec 32 := 0#32
  let c1_i32_20 : BitVec 32 := 1#32
  let arg6 : BitVec 32 := Scf.iv c0_i32_18 c1_i32_20 k0_t1
  let c256_i32_163 : BitVec 32 := 256#32
  let v289 : BitVec 32 := Scalar.muli arg6 c256_i32_163
  let v290 : Index := Scalar.indexCast v289
  let c0_165 : Index := 0#32
  ![0, v290.toNat, 0]
@[reducible] def k0_t2_loop (i : grid0.Coords) : Scf.Loop 32 :=
  let c0_i32_18 : BitVec 32 := 0#32
  let arg1 : BitVec 32 := BitVec.ofNat 32 (i 1).val
  let v37 : BitVec 32 := Scalar.subi arg1 c0_i32_18
  let c1_i32_19 : BitVec 32 := 1#32
  let v39 : BitVec 32 := Scalar.divsi v37 c1_i32_19
  let v40 : BitVec 32 := Scalar.muli v39 c1_i32_19
  let v41 : BitVec 32 := Scalar.addi c0_i32_18 v40
  let v38 : BitVec 32 := Scalar.addi c0_i32_18 v37
  let c1_i32_21 : BitVec 32 := 1#32
  ⟨v41, v38, c1_i32_21⟩
def k0_off3 (i : grid0.Coords) (k0_t2 : Fin (k0_t2_loop i).trips) : Fin 3 → Nat :=
  let c0_160 : Index := 0#32
  let c0_i32_18 : BitVec 32 := 0#32
  let arg1 : BitVec 32 := BitVec.ofNat 32 (i 1).val
  let v37 : BitVec 32 := Scalar.subi arg1 c0_i32_18
  let c1_i32_19 : BitVec 32 := 1#32
  let v39 : BitVec 32 := Scalar.divsi v37 c1_i32_19
  let v40 : BitVec 32 := Scalar.muli v39 c1_i32_19
  let v41 : BitVec 32 := Scalar.addi c0_i32_18 v40
  let c1_i32_21 : BitVec 32 := 1#32
  let arg6 : BitVec 32 := Scf.iv v41 c1_i32_21 k0_t2
  let c1_i32_158 : BitVec 32 := 1#32
  let v283 : BitVec 32 := Scalar.addi arg6 c1_i32_158
  let c256_i32_159 : BitVec 32 := 256#32
  let v284 : BitVec 32 := Scalar.muli v283 c256_i32_159
  let v285 : Index := Scalar.indexCast v284
  let c0_161 : Index := 0#32
  ![0, v285.toNat, 0]
def k0_off4 (i : grid0.Coords) (k0_t2 : Fin (k0_t2_loop i).trips) : Fin 3 → Nat :=
  let c0_164 : Index := 0#32
  let c0_i32_18 : BitVec 32 := 0#32
  let arg1 : BitVec 32 := BitVec.ofNat 32 (i 1).val
  let v37 : BitVec 32 := Scalar.subi arg1 c0_i32_18
  let c1_i32_19 : BitVec 32 := 1#32
  let v39 : BitVec 32 := Scalar.divsi v37 c1_i32_19
  let v40 : BitVec 32 := Scalar.muli v39 c1_i32_19
  let v41 : BitVec 32 := Scalar.addi c0_i32_18 v40
  let c1_i32_21 : BitVec 32 := 1#32
  let arg6 : BitVec 32 := Scf.iv v41 c1_i32_21 k0_t2
  let c256_i32_163 : BitVec 32 := 256#32
  let v289 : BitVec 32 := Scalar.muli arg6 c256_i32_163
  let v290 : Index := Scalar.indexCast v289
  let c0_165 : Index := 0#32
  ![0, v290.toNat, 0]
def k0_off5 (i : grid0.Coords) : Fin 3 → Nat :=
  let c0_24 : Index := 0#32
  let arg1 : BitVec 32 := BitVec.ofNat 32 (i 1).val
  let c256_i32_23 : BitVec 32 := 256#32
  let v46 : BitVec 32 := Scalar.muli arg1 c256_i32_23
  let v47 : Index := Scalar.indexCast v46
  let c0_25 : Index := 0#32
  ![0, v47.toNat, 0]
@[reducible] def k0_t3_loop (i : grid0.Coords) : Scf.Loop 32 :=
  let c0_i32_57 : BitVec 32 := 0#32
  let arg1 : BitVec 32 := BitVec.ofNat 32 (i 1).val
  let v103 : BitVec 32 := Scalar.subi arg1 c0_i32_57
  let c1_i32_58 : BitVec 32 := 1#32
  let v105 : BitVec 32 := Scalar.divsi v103 c1_i32_58
  let v106 : BitVec 32 := Scalar.muli v105 c1_i32_58
  let v107 : BitVec 32 := Scalar.addi c0_i32_57 v106
  let c1_i32_59 : BitVec 32 := 1#32
  ⟨c0_i32_57, v107, c1_i32_59⟩
def k0_off6 (i : grid0.Coords) (k0_t3 : Fin (k0_t3_loop i).trips) : Fin 3 → Nat :=
  let c0_160 : Index := 0#32
  let c0_i32_57 : BitVec 32 := 0#32
  let c1_i32_59 : BitVec 32 := 1#32
  let arg6 : BitVec 32 := Scf.iv c0_i32_57 c1_i32_59 k0_t3
  let c1_i32_158 : BitVec 32 := 1#32
  let v283 : BitVec 32 := Scalar.addi arg6 c1_i32_158
  let c256_i32_159 : BitVec 32 := 256#32
  let v284 : BitVec 32 := Scalar.muli v283 c256_i32_159
  let v285 : Index := Scalar.indexCast v284
  let c128_161 : Index := 128#32
  ![0, v285.toNat, 128]
def k0_off7 (i : grid0.Coords) (k0_t3 : Fin (k0_t3_loop i).trips) : Fin 3 → Nat :=
  let c0_164 : Index := 0#32
  let c0_i32_57 : BitVec 32 := 0#32
  let c1_i32_59 : BitVec 32 := 1#32
  let arg6 : BitVec 32 := Scf.iv c0_i32_57 c1_i32_59 k0_t3
  let c256_i32_163 : BitVec 32 := 256#32
  let v289 : BitVec 32 := Scalar.muli arg6 c256_i32_163
  let v290 : Index := Scalar.indexCast v289
  let c128_165 : Index := 128#32
  ![0, v290.toNat, 128]
@[reducible] def k0_t4_loop (i : grid0.Coords) : Scf.Loop 32 :=
  let c0_i32_57 : BitVec 32 := 0#32
  let arg1 : BitVec 32 := BitVec.ofNat 32 (i 1).val
  let v103 : BitVec 32 := Scalar.subi arg1 c0_i32_57
  let c1_i32_58 : BitVec 32 := 1#32
  let v105 : BitVec 32 := Scalar.divsi v103 c1_i32_58
  let v106 : BitVec 32 := Scalar.muli v105 c1_i32_58
  let v107 : BitVec 32 := Scalar.addi c0_i32_57 v106
  let v104 : BitVec 32 := Scalar.addi c0_i32_57 v103
  let c1_i32_60 : BitVec 32 := 1#32
  ⟨v107, v104, c1_i32_60⟩
def k0_off8 (i : grid0.Coords) (k0_t4 : Fin (k0_t4_loop i).trips) : Fin 3 → Nat :=
  let c0_160 : Index := 0#32
  let c0_i32_57 : BitVec 32 := 0#32
  let arg1 : BitVec 32 := BitVec.ofNat 32 (i 1).val
  let v103 : BitVec 32 := Scalar.subi arg1 c0_i32_57
  let c1_i32_58 : BitVec 32 := 1#32
  let v105 : BitVec 32 := Scalar.divsi v103 c1_i32_58
  let v106 : BitVec 32 := Scalar.muli v105 c1_i32_58
  let v107 : BitVec 32 := Scalar.addi c0_i32_57 v106
  let c1_i32_60 : BitVec 32 := 1#32
  let arg6 : BitVec 32 := Scf.iv v107 c1_i32_60 k0_t4
  let c1_i32_158 : BitVec 32 := 1#32
  let v283 : BitVec 32 := Scalar.addi arg6 c1_i32_158
  let c256_i32_159 : BitVec 32 := 256#32
  let v284 : BitVec 32 := Scalar.muli v283 c256_i32_159
  let v285 : Index := Scalar.indexCast v284
  let c128_161 : Index := 128#32
  ![0, v285.toNat, 128]
def k0_off9 (i : grid0.Coords) (k0_t4 : Fin (k0_t4_loop i).trips) : Fin 3 → Nat :=
  let c0_164 : Index := 0#32
  let c0_i32_57 : BitVec 32 := 0#32
  let arg1 : BitVec 32 := BitVec.ofNat 32 (i 1).val
  let v103 : BitVec 32 := Scalar.subi arg1 c0_i32_57
  let c1_i32_58 : BitVec 32 := 1#32
  let v105 : BitVec 32 := Scalar.divsi v103 c1_i32_58
  let v106 : BitVec 32 := Scalar.muli v105 c1_i32_58
  let v107 : BitVec 32 := Scalar.addi c0_i32_57 v106
  let c1_i32_60 : BitVec 32 := 1#32
  let arg6 : BitVec 32 := Scf.iv v107 c1_i32_60 k0_t4
  let c256_i32_163 : BitVec 32 := 256#32
  let v289 : BitVec 32 := Scalar.muli arg6 c256_i32_163
  let v290 : Index := Scalar.indexCast v289
  let c128_165 : Index := 128#32
  ![0, v290.toNat, 128]
def k0_off10 (i : grid0.Coords) : Fin 3 → Nat :=
  let c0_63 : Index := 0#32
  let arg1 : BitVec 32 := BitVec.ofNat 32 (i 1).val
  let c256_i32_62 : BitVec 32 := 256#32
  let v112 : BitVec 32 := Scalar.muli arg1 c256_i32_62
  let v113 : Index := Scalar.indexCast v112
  let c128_64 : Index := 128#32
  ![0, v113.toNat, 128]
@[reducible] def k0_t5_loop (i : grid0.Coords) : Scf.Loop 32 :=
  let c0_i32_96 : BitVec 32 := 0#32
  let arg1 : BitVec 32 := BitVec.ofNat 32 (i 1).val
  let v169 : BitVec 32 := Scalar.subi arg1 c0_i32_96
  let c1_i32_97 : BitVec 32 := 1#32
  let v171 : BitVec 32 := Scalar.divsi v169 c1_i32_97
  let v172 : BitVec 32 := Scalar.muli v171 c1_i32_97
  let v173 : BitVec 32 := Scalar.addi c0_i32_96 v172
  let c1_i32_98 : BitVec 32 := 1#32
  ⟨c0_i32_96, v173, c1_i32_98⟩
def k0_off11 (i : grid0.Coords) (k0_t5 : Fin (k0_t5_loop i).trips) : Fin 3 → Nat :=
  let c0_160 : Index := 0#32
  let c0_i32_96 : BitVec 32 := 0#32
  let c1_i32_98 : BitVec 32 := 1#32
  let arg6 : BitVec 32 := Scf.iv c0_i32_96 c1_i32_98 k0_t5
  let c1_i32_158 : BitVec 32 := 1#32
  let v283 : BitVec 32 := Scalar.addi arg6 c1_i32_158
  let c256_i32_159 : BitVec 32 := 256#32
  let v284 : BitVec 32 := Scalar.muli v283 c256_i32_159
  let v285 : Index := Scalar.indexCast v284
  let c256_161 : Index := 256#32
  ![0, v285.toNat, 256]
def k0_off12 (i : grid0.Coords) (k0_t5 : Fin (k0_t5_loop i).trips) : Fin 3 → Nat :=
  let c0_164 : Index := 0#32
  let c0_i32_96 : BitVec 32 := 0#32
  let c1_i32_98 : BitVec 32 := 1#32
  let arg6 : BitVec 32 := Scf.iv c0_i32_96 c1_i32_98 k0_t5
  let c256_i32_163 : BitVec 32 := 256#32
  let v289 : BitVec 32 := Scalar.muli arg6 c256_i32_163
  let v290 : Index := Scalar.indexCast v289
  let c256_165 : Index := 256#32
  ![0, v290.toNat, 256]
@[reducible] def k0_t6_loop (i : grid0.Coords) : Scf.Loop 32 :=
  let c0_i32_96 : BitVec 32 := 0#32
  let arg1 : BitVec 32 := BitVec.ofNat 32 (i 1).val
  let v169 : BitVec 32 := Scalar.subi arg1 c0_i32_96
  let c1_i32_97 : BitVec 32 := 1#32
  let v171 : BitVec 32 := Scalar.divsi v169 c1_i32_97
  let v172 : BitVec 32 := Scalar.muli v171 c1_i32_97
  let v173 : BitVec 32 := Scalar.addi c0_i32_96 v172
  let v170 : BitVec 32 := Scalar.addi c0_i32_96 v169
  let c1_i32_99 : BitVec 32 := 1#32
  ⟨v173, v170, c1_i32_99⟩
def k0_off13 (i : grid0.Coords) (k0_t6 : Fin (k0_t6_loop i).trips) : Fin 3 → Nat :=
  let c0_160 : Index := 0#32
  let c0_i32_96 : BitVec 32 := 0#32
  let arg1 : BitVec 32 := BitVec.ofNat 32 (i 1).val
  let v169 : BitVec 32 := Scalar.subi arg1 c0_i32_96
  let c1_i32_97 : BitVec 32 := 1#32
  let v171 : BitVec 32 := Scalar.divsi v169 c1_i32_97
  let v172 : BitVec 32 := Scalar.muli v171 c1_i32_97
  let v173 : BitVec 32 := Scalar.addi c0_i32_96 v172
  let c1_i32_99 : BitVec 32 := 1#32
  let arg6 : BitVec 32 := Scf.iv v173 c1_i32_99 k0_t6
  let c1_i32_158 : BitVec 32 := 1#32
  let v283 : BitVec 32 := Scalar.addi arg6 c1_i32_158
  let c256_i32_159 : BitVec 32 := 256#32
  let v284 : BitVec 32 := Scalar.muli v283 c256_i32_159
  let v285 : Index := Scalar.indexCast v284
  let c256_161 : Index := 256#32
  ![0, v285.toNat, 256]
def k0_off14 (i : grid0.Coords) (k0_t6 : Fin (k0_t6_loop i).trips) : Fin 3 → Nat :=
  let c0_164 : Index := 0#32
  let c0_i32_96 : BitVec 32 := 0#32
  let arg1 : BitVec 32 := BitVec.ofNat 32 (i 1).val
  let v169 : BitVec 32 := Scalar.subi arg1 c0_i32_96
  let c1_i32_97 : BitVec 32 := 1#32
  let v171 : BitVec 32 := Scalar.divsi v169 c1_i32_97
  let v172 : BitVec 32 := Scalar.muli v171 c1_i32_97
  let v173 : BitVec 32 := Scalar.addi c0_i32_96 v172
  let c1_i32_99 : BitVec 32 := 1#32
  let arg6 : BitVec 32 := Scf.iv v173 c1_i32_99 k0_t6
  let c256_i32_163 : BitVec 32 := 256#32
  let v289 : BitVec 32 := Scalar.muli arg6 c256_i32_163
  let v290 : Index := Scalar.indexCast v289
  let c256_165 : Index := 256#32
  ![0, v290.toNat, 256]
def k0_off15 (i : grid0.Coords) : Fin 3 → Nat :=
  let c0_102 : Index := 0#32
  let arg1 : BitVec 32 := BitVec.ofNat 32 (i 1).val
  let c256_i32_101 : BitVec 32 := 256#32
  let v178 : BitVec 32 := Scalar.muli arg1 c256_i32_101
  let v179 : Index := Scalar.indexCast v178
  let c256_103 : Index := 256#32
  ![0, v179.toNat, 256]
@[reducible] def k0_t7_loop (i : grid0.Coords) : Scf.Loop 32 :=
  let c0_i32_135 : BitVec 32 := 0#32
  let arg1 : BitVec 32 := BitVec.ofNat 32 (i 1).val
  let v235 : BitVec 32 := Scalar.subi arg1 c0_i32_135
  let c1_i32_136 : BitVec 32 := 1#32
  let v237 : BitVec 32 := Scalar.divsi v235 c1_i32_136
  let v238 : BitVec 32 := Scalar.muli v237 c1_i32_136
  let v239 : BitVec 32 := Scalar.addi c0_i32_135 v238
  let c1_i32_137 : BitVec 32 := 1#32
  ⟨c0_i32_135, v239, c1_i32_137⟩
def k0_off16 (i : grid0.Coords) (k0_t7 : Fin (k0_t7_loop i).trips) : Fin 3 → Nat :=
  let c0_160 : Index := 0#32
  let c0_i32_135 : BitVec 32 := 0#32
  let c1_i32_137 : BitVec 32 := 1#32
  let arg6 : BitVec 32 := Scf.iv c0_i32_135 c1_i32_137 k0_t7
  let c1_i32_158 : BitVec 32 := 1#32
  let v283 : BitVec 32 := Scalar.addi arg6 c1_i32_158
  let c256_i32_159 : BitVec 32 := 256#32
  let v284 : BitVec 32 := Scalar.muli v283 c256_i32_159
  let v285 : Index := Scalar.indexCast v284
  let c384_161 : Index := 384#32
  ![0, v285.toNat, 384]
def k0_off17 (i : grid0.Coords) (k0_t7 : Fin (k0_t7_loop i).trips) : Fin 3 → Nat :=
  let c0_164 : Index := 0#32
  let c0_i32_135 : BitVec 32 := 0#32
  let c1_i32_137 : BitVec 32 := 1#32
  let arg6 : BitVec 32 := Scf.iv c0_i32_135 c1_i32_137 k0_t7
  let c256_i32_163 : BitVec 32 := 256#32
  let v289 : BitVec 32 := Scalar.muli arg6 c256_i32_163
  let v290 : Index := Scalar.indexCast v289
  let c384_165 : Index := 384#32
  ![0, v290.toNat, 384]
@[reducible] def k0_t8_loop (i : grid0.Coords) : Scf.Loop 32 :=
  let c0_i32_135 : BitVec 32 := 0#32
  let arg1 : BitVec 32 := BitVec.ofNat 32 (i 1).val
  let v235 : BitVec 32 := Scalar.subi arg1 c0_i32_135
  let c1_i32_136 : BitVec 32 := 1#32
  let v237 : BitVec 32 := Scalar.divsi v235 c1_i32_136
  let v238 : BitVec 32 := Scalar.muli v237 c1_i32_136
  let v239 : BitVec 32 := Scalar.addi c0_i32_135 v238
  let v236 : BitVec 32 := Scalar.addi c0_i32_135 v235
  let c1_i32_138 : BitVec 32 := 1#32
  ⟨v239, v236, c1_i32_138⟩
def k0_off18 (i : grid0.Coords) (k0_t8 : Fin (k0_t8_loop i).trips) : Fin 3 → Nat :=
  let c0_160 : Index := 0#32
  let c0_i32_135 : BitVec 32 := 0#32
  let arg1 : BitVec 32 := BitVec.ofNat 32 (i 1).val
  let v235 : BitVec 32 := Scalar.subi arg1 c0_i32_135
  let c1_i32_136 : BitVec 32 := 1#32
  let v237 : BitVec 32 := Scalar.divsi v235 c1_i32_136
  let v238 : BitVec 32 := Scalar.muli v237 c1_i32_136
  let v239 : BitVec 32 := Scalar.addi c0_i32_135 v238
  let c1_i32_138 : BitVec 32 := 1#32
  let arg6 : BitVec 32 := Scf.iv v239 c1_i32_138 k0_t8
  let c1_i32_158 : BitVec 32 := 1#32
  let v283 : BitVec 32 := Scalar.addi arg6 c1_i32_158
  let c256_i32_159 : BitVec 32 := 256#32
  let v284 : BitVec 32 := Scalar.muli v283 c256_i32_159
  let v285 : Index := Scalar.indexCast v284
  let c384_161 : Index := 384#32
  ![0, v285.toNat, 384]
def k0_off19 (i : grid0.Coords) (k0_t8 : Fin (k0_t8_loop i).trips) : Fin 3 → Nat :=
  let c0_164 : Index := 0#32
  let c0_i32_135 : BitVec 32 := 0#32
  let arg1 : BitVec 32 := BitVec.ofNat 32 (i 1).val
  let v235 : BitVec 32 := Scalar.subi arg1 c0_i32_135
  let c1_i32_136 : BitVec 32 := 1#32
  let v237 : BitVec 32 := Scalar.divsi v235 c1_i32_136
  let v238 : BitVec 32 := Scalar.muli v237 c1_i32_136
  let v239 : BitVec 32 := Scalar.addi c0_i32_135 v238
  let c1_i32_138 : BitVec 32 := 1#32
  let arg6 : BitVec 32 := Scf.iv v239 c1_i32_138 k0_t8
  let c256_i32_163 : BitVec 32 := 256#32
  let v289 : BitVec 32 := Scalar.muli arg6 c256_i32_163
  let v290 : Index := Scalar.indexCast v289
  let c384_165 : Index := 384#32
  ![0, v290.toNat, 384]
def k0_off20 (i : grid0.Coords) : Fin 3 → Nat :=
  let c0_141 : Index := 0#32
  let arg1 : BitVec 32 := BitVec.ofNat 32 (i 1).val
  let c256_i32_140 : BitVec 32 := 256#32
  let v244 : BitVec 32 := Scalar.muli arg1 c256_i32_140
  let v245 : Index := Scalar.indexCast v244
  let c384_142 : Index := 384#32
  ![0, v245.toNat, 384]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== KernelIdeal.lean ====
variable {F : FTy → Type} [FloatOps F] [Named F]
def κ : String → Option EReal := fun
  | "mask" => some ⊥
  | "scale_log2e" => some (((Real.sqrt 128)⁻¹ * (Real.log 2)⁻¹ : ℝ) : EReal)
  | _ => none
-- ==== ReferenceIdeal.lean ====
abbrev S4096x16x128 : Shape := ⟨3, ![4096, 16, 128]⟩
abbrev S4096x4x128 : Shape := ⟨3, ![4096, 4, 128]⟩
abbrev S5 : Shape := ⟨1, ![5]⟩
abbrev S_ : Shape := ⟨0, ![]⟩
abbrev S4096x4x4x128 : Shape := ⟨4, ![4096, 4, 4, 128]⟩
abbrev S4x1024x16x128 : Shape := ⟨4, ![4, 1024, 16, 128]⟩
abbrev S4x16x1024x128 : Shape := ⟨4, ![4, 16, 1024, 128]⟩
abbrev S4x16x1024x1024 : Shape := ⟨4, ![4, 16, 1024, 1024]⟩
abbrev S1024x1024 : Shape := ⟨2, ![1024, 1024]⟩
abbrev S1x1x1024x1024 : Shape := ⟨4, ![1, 1, 1024, 1024]⟩
abbrev S4x16x1024 : Shape := ⟨3, ![4, 16, 1024]⟩
abbrev S4x16x1024x1 : Shape := ⟨4, ![4, 16, 1024, 1]⟩

abbrev nBuf : Space → Nat
  | .hbm => 52
  | .vmem => 0
  | .smem => 0
  | _ => 0

abbrev bufTy : (tb : Table) → Fin (tcTables nBuf tb) → BufTy
  | .hbm, ⟨0, _⟩ => ⟨S4096x16x128, .f32⟩
  | .hbm, ⟨1, _⟩ => ⟨S4096x4x128, .f32⟩
  | .hbm, ⟨2, _⟩ => ⟨S4096x4x128, .f32⟩
  | .hbm, ⟨3, _⟩ => ⟨S5, .i32⟩
  | .hbm, ⟨4, _⟩ => ⟨S_, .f32⟩
  | .hbm, ⟨5, _⟩ => ⟨S4096x4x4x128, .f32⟩
  | .hbm, ⟨6, _⟩ => ⟨S4096x16x128, .f32⟩
  | .hbm, ⟨7, _⟩ => ⟨S4096x4x4x128, .f32⟩
  | .hbm, ⟨8, _⟩ => ⟨S4096x16x128, .f32⟩
  | .hbm, ⟨9, _⟩ => ⟨S4x1024x16x128, .f32⟩
  | .hbm, ⟨10, _⟩ => ⟨S4x16x1024x128, .f32⟩
  | .hbm, ⟨11, _⟩ => ⟨S4x1024x16x128, .f32⟩
  | .hbm, ⟨12, _⟩ => ⟨S4x16x1024x128, .f32⟩
  | .hbm, ⟨13, _⟩ => ⟨S4x1024x16x128, .f32⟩
  | .hbm, ⟨14, _⟩ => ⟨S4x16x1024x128, .f32⟩
  | .hbm, ⟨15, _⟩ => ⟨S4x16x1024x1024, .f32⟩
  | .hbm, ⟨16, _⟩ => ⟨S_, .f32⟩
  | .hbm, ⟨17, _⟩ => ⟨S_, .f32⟩
  | .hbm, ⟨18, _⟩ => ⟨S4x16x1024x1024, .f32⟩
  | .hbm, ⟨19, _⟩ => ⟨S4x16x1024x1024, .f32⟩
  | .hbm, ⟨20, _⟩ => ⟨S_, .i1⟩
  | .hbm, ⟨21, _⟩ => ⟨S1024x1024, .i1⟩
  | .hbm, ⟨22, _⟩ => ⟨S1024x1024, .i32⟩
  | .hbm, ⟨23, _⟩ => ⟨S_, .i32⟩
  | .hbm, ⟨24, _⟩ => ⟨S1024x1024, .i32⟩
  | .hbm, ⟨25, _⟩ => ⟨S1024x1024, .i32⟩
  | .hbm, ⟨26, _⟩ => ⟨S1024x1024, .i32⟩
  | .hbm, ⟨27, _⟩ => ⟨S1024x1024, .i1⟩
  | .hbm, ⟨28, _⟩ => ⟨S_, .i1⟩
  | .hbm, ⟨29, _⟩ => ⟨S1024x1024, .i1⟩
  | .hbm, ⟨30, _⟩ => ⟨S1024x1024, .i1⟩
  | .hbm, ⟨31, _⟩ => ⟨S1x1x1024x1024, .i1⟩
  | .hbm, ⟨32, _⟩ => ⟨S4x16x1024x1024, .i1⟩
  | .hbm, ⟨33, _⟩ => ⟨S4x16x1024x1024, .f32⟩
  | .hbm, ⟨34, _⟩ => ⟨S4x16x1024x1024, .f32⟩
  | .hbm, ⟨35, _⟩ => ⟨S_, .f32⟩
  | .hbm, ⟨36, _⟩ => ⟨S4x16x1024, .f32⟩
  | .hbm, ⟨37, _⟩ => ⟨S_, .f32⟩
  | .hbm, ⟨38, _⟩ => ⟨S4x16x1024, .f32⟩
  | .hbm, ⟨39, _⟩ => ⟨S4x16x1024, .f32⟩
  | .hbm, ⟨40, _⟩ => ⟨S4x16x1024x1, .f32⟩
  | .hbm, ⟨41, _⟩ => ⟨S4x16x1024x1024, .f32⟩
  | .hbm, ⟨42, _⟩ => ⟨S4x16x1024x1024, .f32⟩
  | .hbm, ⟨43, _⟩ => ⟨S4x16x1024x1024, .f32⟩
  | .hbm, ⟨44, _⟩ => ⟨S_, .f32⟩
  | .hbm, ⟨45, _⟩ => ⟨S4x16x1024, .f32⟩
  | .hbm, ⟨46, _⟩ => ⟨S4x16x1024x1, .f32⟩
  | .hbm, ⟨47, _⟩ => ⟨S4x16x1024x1024, .f32⟩
  | .hbm, ⟨48, _⟩ => ⟨S4x16x1024x1024, .f32⟩
  | .hbm, ⟨49, _⟩ => ⟨S4x16x1024x128, .f32⟩
  | .hbm, ⟨50, _⟩ => ⟨S4x1024x16x128, .f32⟩
  | .hbm, ⟨51, _⟩ => ⟨S4096x16x128, .f32⟩
  | _, _ => ⟨S4096x16x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_0 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_c : Ref sig .tc := ⟨.hbm, 20, rfl⟩
abbrev main_v14 : Ref sig .tc := ⟨.hbm, 21, rfl⟩
abbrev main_call0_v0 : Ref sig .tc := ⟨.hbm, 22, rfl⟩
abbrev main_call0_c : Ref sig .tc := ⟨.hbm, 23, rfl⟩
abbrev main_call0_v1 : Ref sig .tc := ⟨.hbm, 24, rfl⟩
abbrev main_call0_v2 : Ref sig .tc := ⟨.hbm, 25, rfl⟩
abbrev main_call0_v3 : Ref sig .tc := ⟨.hbm, 26, rfl⟩
abbrev main_call0_v4 : Ref sig .tc := ⟨.hbm, 27, rfl⟩
abbrev main_call0_c_0 : Ref sig .tc := ⟨.hbm, 28, rfl⟩
abbrev main_call0_v5 : Ref sig .tc := ⟨.hbm, 29, rfl⟩
abbrev main_v15 : Ref sig .tc := ⟨.hbm, 30, rfl⟩
abbrev main_v16 : Ref sig .tc := ⟨.hbm, 31, rfl⟩
abbrev main_call1_v0 : Ref sig .tc := ⟨.hbm, 32, rfl⟩
abbrev main_call1_v1 : Ref sig .tc := ⟨.hbm, 33, rfl⟩
abbrev main_v17 : Ref sig .tc := ⟨.hbm, 34, rfl⟩
abbrev main_cst_1 : Ref sig .tc := ⟨.hbm, 35, rfl⟩
abbrev main_v18 : Ref sig .tc := ⟨.hbm, 36, rfl⟩
abbrev main_cst_2 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_cst_3 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩

abbrev nD : Nat := 1
abbrev τ : Topo := Topo.v7x

variable {F : FTy → Type} [FloatOps F]
-- ==== Proof.Body.lean ====
/- The kernel body as functions on vectors: the blocks it loads, one step of the running softmax, the
   loop over the key blocks, and the diagonal block's closing step; and that the body's named payloads
   and loop states are these functions. -/
module

public import proofs.«01_k».proof.Proof.Gen.KernelIdeal.Frame
public import Idealize.ShloMosaic.Lib.Pipeline.ValueKit
public import Idealize.ShloMosaic.Lib.Pointwise

@[expose] public section

set_option maxRecDepth 16384

noncomputable section

namespace Cert.Proof.Body

open Idealize.ShloMosaic Idealize.ShloMosaic.TcCoe Idealize.ShloMosaic.Tactic Cert.KernelIdeal Cert.KernelIdeal.Gen

variable {F : FTy → Type} [FloatOps F] [Named F]

/-- What the loop carries: the running maximum, denominator and numerator, and the logits of the
    block to be taken next. -/
abbrev St (F : FTy → Type) := FVec F S1024x1 .f32 × FVec F S1024x1 .f32 × FVec F S1024x128 .f32 × FVec F S1024x256 .f32

/-- Block `n` of 256 rows of a key or value array, in the 128 columns of group `g`. -/
def rowsAt (x : Vec F S1x1024x512 .bf16) (n g : ℕ) : Vec F S1x256x128 .bf16 := fun j =>
  x (ix3 (0 : Fin 1) ⟨(256 * n + (j 1).val) % 1024, Nat.mod_lt _ (by norm_num)⟩ ⟨(128 * g + (j 2).val) % 512, Nat.mod_lt _ (by norm_num)⟩)

/-- The query block's 128 columns of head `h`. -/
def headAt (x : Vec F S1x256x2048 .f32) (h : ℕ) : Vec F S1x256x128 .f32 := fun j =>
  x (ix3 (0 : Fin 1) ⟨(j 1).val % 256, Nat.mod_lt _ (by norm_num)⟩ ⟨(128 * h + (j 2).val) % 2048, Nat.mod_lt _ (by norm_num)⟩)

/-- The four query heads of group `g` stacked: row `256 * j + r` is row `r` of head `4 * g + j`. -/
def stack (x : Vec F S1x256x2048 .f32) (g : ℕ) : FVec F S1024x128 .bf16 :=
  k0_pay3 (headAt x (4 * g)) (headAt x (4 * g + 1)) (headAt x (4 * g + 2)) (headAt x (4 * g + 3))

/-- One step of the running softmax: the carried block of logits is taken in with the value block
    `vb`, and `nxt` are the logits carried on. -/
def stepV (vb : Vec F S1x256x128 .bf16) (nxt : FVec F S1024x256 .f32) (st : St F) : St F :=
  (k0_pay9 st.1 st.2.2.2, k0_pay13 st.1 st.2.1 st.2.2.2, k0_pay12 st.1 st.2.2.1 st.2.2.2 vb, nxt)

/-- The logits of the stacked queries against a key block. -/
def dotV (qs : FVec F S1024x128 .bf16) (kb : Vec F S1x256x128 .bf16) : FVec F S1024x256 .f32 := k0_pay8 qs kb

/-- The state before block `n` of group `g`. -/
def loopV (qs : FVec F S1024x128 .bf16) (ks vs : Vec F S1x1024x512 .bf16) (g : ℕ) : ℕ → St F
  | 0 => (k0_pay4, k0_pay5, k0_pay6, dotV qs (rowsAt ks 0 g))
  | n + 1 => stepV (rowsAt vs n g) (dotV qs (rowsAt ks (n + 1) g)) (loopV qs ks vs g n)

/-- The diagonal block: its masked logits are taken in, and the numerator is divided by the denominator. -/
def closeV (st : St F) (vb : Vec F S1x256x128 .bf16) : FVec F S1024x128 .f32 := k0_pay20 k0_pay2 st.1 st.2.1 st.2.2.1 st.2.2.2 vb

/-- What the body computes for group `g` at query block `qi`: 256 rows for each of its four heads. -/
def groupV (xq : Vec F S1x256x2048 .f32) (ks vs : Vec F S1x1024x512 .bf16) (qi g : ℕ) : FVec F S1024x128 .f32 :=
  closeV (loopV (stack xq g) ks vs g qi) (rowsAt vs qi g)

/-- A step depends on the key and value blocks it loads. -/
theorem step_congr (qs : FVec F S1024x128 .bf16) (st : St F) {kb kb' vb vb' : Vec F S1x256x128 .bf16} (hk : kb = kb') (hv : vb = vb') :
    stepV vb (dotV qs kb) st = stepV vb' (dotV qs kb') st := by rw [hk, hv]

/-- A load of 256 rows at row `256 * n` and column `128 * g` reads that block. -/
theorem load_rows {arg : Memref sig .tc .vmem S1x1024x512 .bf16} (h : arg.IsWhole) (x : Vec F S1x1024x512 .bf16)
    (off : Fin 3 → ℕ) (inb) (n g : ℕ) (hoff : off = ![0, 256 * n, 128 * g]) :
    View.readAt (Elt F) arg.view (Rect.unit (s := S1x1024x512) off S1x256x128.size inb).toLoadRect (h.unread x) = rowsAt x n g := by
  subst hoff
  rw [View.readAt_eq_ld, h.read_unread]
  have h1 : 256 * n + 256 ≤ 1024 := inb 1
  have h2 : 128 * g + 128 ≤ 512 := inb 2
  funext j
  rw [View.ld_apply]
  refine congrArg x (funext fun a => Fin.ext ?_)
  have hj1 : (j 1).val < 256 := (j 1).isLt
  have hj2 : (j 2).val < 128 := (j 2).isLt
  have hj0 : (j 0).val < 1 := (j 0).isLt
  rw [Rect.idx_unit_val]
  fin_cases a
  · show 0 + (j 0).val = 0
    omega
  · show 256 * n + (j 1).val = (256 * n + (j 1).val) % 1024
    omega
  · show 128 * g + (j 2).val = (128 * g + (j 2).val) % 512
    omega

/-- A load of the 128 columns at `128 * h` of the query block reads head `h`. -/
theorem load_head {arg : Memref sig .tc .vmem S1x256x2048 .f32} (h : arg.IsWhole) (x : Vec F S1x256x2048 .f32)
    (off : Fin 3 → ℕ) (inb) (n : ℕ) (hoff : off = ![0, 0, 128 * n]) :
    View.readAt (Elt F) arg.view (Rect.unit (s := S1x256x2048) off S1x256x128.size inb).toLoadRect (h.unread x) = headAt x n := by
  subst hoff
  rw [View.readAt_eq_ld, h.read_unread]
  have h2 : 128 * n + 128 ≤ 2048 := inb 2
  funext j
  rw [View.ld_apply]
  refine congrArg x (funext fun a => Fin.ext ?_)
  have hj1 : (j 1).val < 256 := (j 1).isLt
  have hj2 : (j 2).val < 128 := (j 2).isLt
  have hj0 : (j 0).val < 1 := (j 0).isLt
  rw [Rect.idx_unit_val]
  fin_cases a
  · show 0 + (j 0).val = 0
    omega
  · show 0 + (j 1).val = (j 1).val % 256
    omega
  · show 128 * n + (j 2).val = (128 * n + (j 2).val) % 2048
    omega

/-- States that begin as `loopV` does and step as it does are `loopV`'s. -/
theorem loop_unique {T : ℕ} (qs : FVec F S1024x128 .bf16) (ks vs : Vec F S1x1024x512 .bf16) (g : ℕ) (st : ℕ → St F)
    (h0 : st 0 = loopV qs ks vs g 0)
    (hs : ∀ k : Fin T, st (k.val + 1) = stepV (rowsAt vs k.val g) (dotV qs (rowsAt ks (k.val + 1) g)) (st k.val)) :
    st T = loopV qs ks vs g T := by
  have : ∀ n, n ≤ T → st n = loopV qs ks vs g n := fun n => by
    induction n with
    | zero => exact fun _ => h0
    | succ n ih => exact fun h => by rw [hs ⟨n, h⟩, loopV, ih (Nat.le_of_succ_le h)]
  exact this T le_rfl

/-- The row offset of a load in trip `k` of a loop counted from zero by one: block `k`. -/
theorem off_here : ∀ k : Fin 4, (Scalar.indexCast (Scalar.muli (Scf.iv 0#32 1#32 k.val) 256#32) : BitVec 32).toNat = 256 * k.val := by
  decide +kernel

/-- The row offset of the load one trip ahead: block `k + 1`. -/
theorem off_next : ∀ k : Fin 4,
    (Scalar.indexCast (Scalar.muli (Scalar.addi (Scf.iv 0#32 1#32 k.val) 1#32) 256#32) : BitVec 32).toNat = 256 * (k.val + 1) := by
  decide +kernel

/-- The row offset of the load of the diagonal block: block `q`. -/
theorem off_diag : ∀ q : Fin 4, (Scalar.indexCast (Scalar.muli (BitVec.ofNat 32 q.val) 256#32) : BitVec 32).toNat = 256 * q.val := by
  decide +kernel

/-- The loop over the key blocks before the diagonal makes `q` trips at query block `q`. -/
theorem trips_main : ∀ q : Fin 4, Scf.trips 0#32 (Scalar.addi 0#32 (Scalar.muli (Scalar.divsi (Scalar.subi (BitVec.ofNat 32 q.val) 0#32) 1#32) 1#32)) 1#32 = q.val := by
  decide +kernel

/-- The loop after it, over what a step of one leaves, makes none. -/
theorem trips_rest : ∀ q : Fin 4, Scf.trips (Scalar.addi 0#32 (Scalar.muli (Scalar.divsi (Scalar.subi (BitVec.ofNat 32 q.val) 0#32) 1#32) 1#32)) (Scalar.addi 0#32 (Scalar.subi (BitVec.ofNat 32 q.val) 0#32)) 1#32 = 0 := by
  decide +kernel

section Loops

variable (𝒱 : Variants) (c : Dev nD) (bd : Option 𝒱.V) (i : grid0.Coords)
  (arg2 : Memref sig .tc .vmem S1x256x2048 .f32) (harg2 : arg2.IsWhole)
  (arg3 : Memref sig .tc .vmem S1x1024x512 .bf16) (harg3 : arg3.IsWhole)
  (arg4 : Memref sig .tc .vmem S1x1024x512 .bf16) (harg4 : arg4.IsWhole)
  (arg5 : Memref sig .tc .vmem S1x256x2048 .f32) (harg5 : arg5.IsWhole)
  (xq : Vec F S1x256x2048 .f32) (ks vs : Vec F S1x1024x512 .bf16)

/-- The trip number of a main loop is below four. -/
theorem trip_lt (k : ℕ) (h : k < (k0_t1_loop i).trips) : k < 4 :=
  lt_trans (lt_of_lt_of_eq h (trips_main (i 1))) (i 1).isLt

/-- The offsets of the load one trip ahead. -/
theorem off_next' (d k : ℕ) (h : k < (k0_t1_loop i).trips) :
    ![0, (Scalar.indexCast (Scalar.muli (Scalar.addi (Scf.iv 0#32 1#32 k) 1#32) 256#32) : BitVec 32).toNat, d] = ![0, 256 * (k + 1), d] :=
  congrArg (fun n => ![0, n, d]) (off_next ⟨k, trip_lt i k h⟩)

/-- The offsets of a load in trip `k`. -/
theorem off_here' (d k : ℕ) (h : k < (k0_t1_loop i).trips) :
    ![0, (Scalar.indexCast (Scalar.muli (Scf.iv 0#32 1#32 k) 256#32) : BitVec 32).toNat, d] = ![0, 256 * k, d] :=
  congrArg (fun n => ![0, n, d]) (off_here ⟨k, trip_lt i k h⟩)

/-- The first group's loop carries `loopV` at group 0. -/
theorem loop1 (arg1 : BitVec 32) (v18 : IVec S1024x256 1) (qs : FVec F S1024x128 .bf16) (v31 v32 : FVec F S1024x1 .f32) (v33 : FVec F S1024x128 .f32) (init : St F) (hi : init = loopV qs ks vs 0 0) :
    st_k0_t1 𝒱 c bd i arg2 harg2 arg3 harg3 arg4 harg4 arg5 harg5 arg1 v18 qs v31 v32 v33 (harg3.unread ks) (harg4.unread vs) init (k0_t1_loop i).trips
      = loopV qs ks vs 0 (k0_t1_loop i).trips := by
  refine loop_unique qs ks vs 0 (fun n => st_k0_t1 𝒱 c bd i arg2 harg2 arg3 harg3 arg4 harg4 arg5 harg5 arg1 v18 qs v31 v32 v33 _ _ init n) hi fun k => ?_
  refine (st_k0_t1_succ ..).trans ?_
  unfold tripR_k0_t1 trip_k0_t1
  exact step_congr _ _ (load_rows harg3 ks (k0_off1 i k) (k0_off1_inb i k) (k.val + 1) 0 (off_next' i 0 k k.isLt))
    (load_rows harg4 vs (k0_off2 i k) (k0_off2_inb i k) k.val 0 (off_here' i 0 k k.isLt))

/-- The second group's loop carries `loopV` at group 1. -/
theorem loop3 (arg1 : BitVec 32) (v18 : IVec S1024x256 1) (qs : FVec F S1024x128 .bf16) (v97 v98 : FVec F S1024x1 .f32) (v99 : FVec F S1024x128 .f32) (v102 : FVec F S1024x256 .f32) (z v103 : BitVec 32) (init : St F) (hi : init = loopV qs ks vs 1 0) :
    st_k0_t3 𝒱 c bd i arg2 harg2 arg3 harg3 arg4 harg4 arg5 harg5 arg1 v18 qs v97 v98 v99 v102 z v103 (harg3.unread ks) (harg4.unread vs) init (k0_t3_loop i).trips
      = loopV qs ks vs 1 (k0_t3_loop i).trips := by
  refine loop_unique qs ks vs 1 (fun n => st_k0_t3 𝒱 c bd i arg2 harg2 arg3 harg3 arg4 harg4 arg5 harg5 arg1 v18 qs v97 v98 v99 v102 z v103 _ _ init n) hi fun k => ?_
  refine (st_k0_t3_succ ..).trans ?_
  unfold tripR_k0_t3 trip_k0_t3
  exact step_congr _ _ (load_rows harg3 ks (k0_off6 i k) (k0_off6_inb i k) (k.val + 1) 1 (off_next' i 128 k k.isLt))
    (load_rows harg4 vs (k0_off7 i k) (k0_off7_inb i k) k.val 1 (off_here' i 128 k k.isLt))

/-- The third group's loop carries `loopV` at group 2. -/
theorem loop5 (arg1 : BitVec 32) (v134 : FVec F S1024x128 .f32) (v143 : FVec F S256x128 .f32) (a0 a1 a2 a3 : Vec F S1x256x128 .f32) (init : St F) (hi : init = loopV (k0_pay3 a0 a1 a2 a3) ks vs 2 0) :
    st_k0_t5 𝒱 c bd i arg2 harg2 arg3 harg3 arg4 harg4 arg5 harg5 arg1 v134 v143 a0 a1 a2 a3 (harg3.unread ks) (harg4.unread vs) init (k0_t5_loop i).trips
      = loopV (k0_pay3 a0 a1 a2 a3) ks vs 2 (k0_t5_loop i).trips := by
  refine loop_unique (k0_pay3 a0 a1 a2 a3) ks vs 2 (fun n => st_k0_t5 𝒱 c bd i arg2 harg2 arg3 harg3 arg4 harg4 arg5 harg5 arg1 v134 v143 a0 a1 a2 a3 _ _ init n) hi fun k => ?_
  refine (st_k0_t5_succ ..).trans ?_
  unfold tripR_k0_t5 trip_k0_t5
  exact step_congr _ _ (load_rows harg3 ks (k0_off11 i k) (k0_off11_inb i k) (k.val + 1) 2 (off_next' i 256 k k.isLt))
    (load_rows harg4 vs (k0_off12 i k) (k0_off12_inb i k) k.val 2 (off_here' i 256 k k.isLt))

/-- The fourth group's loop carries `loopV` at group 3. -/
theorem loop7 (arg1 : BitVec 32) (v18 : IVec S1024x256 1) (v213 : FVec F S256x128 .f32) (a0 a1 a2 a3 : Vec F S1x256x128 .f32) (init : St F) (hi : init = loopV (k0_pay3 a0 a1 a2 a3) ks vs 3 0) :
    st_k0_t7 𝒱 c bd i arg2 harg2 arg3 harg3 arg4 harg4 arg5 harg5 arg1 v18 v213 a0 a1 a2 a3 (harg3.unread ks) (harg4.unread vs) init (k0_t7_loop i).trips
      = loopV (k0_pay3 a0 a1 a2 a3) ks vs 3 (k0_t7_loop i).trips := by
  refine loop_unique (k0_pay3 a0 a1 a2 a3) ks vs 3 (fun n => st_k0_t7 𝒱 c bd i arg2 harg2 arg3 harg3 arg4 harg4 arg5 harg5 arg1 v18 v213 a0 a1 a2 a3 _ _ init n) hi fun k => ?_
  refine (st_k0_t7_succ ..).trans ?_
  unfold tripR_k0_t7 trip_k0_t7
  exact step_congr _ _ (load_rows harg3 ks (k0_off16 i k) (k0_off16_inb i k) (k.val + 1) 3 (off_next' i 384 k k.isLt))
    (load_rows harg4 vs (k0_off17 i k) (k0_off17_inb i k) k.val 3 (off_here' i 384 k k.isLt))

/-- The first group's two loops, the second making no trip, leave the state before the diagonal block. -/
theorem both1 (arg1 : BitVec 32) (v18 : IVec S1024x256 1) (qs : FVec F S1024x128 .bf16) (v31 v32 : FVec F S1024x1 .f32) (v33 : FVec F S1024x128 .f32) (init : St F) (hi : init = loopV qs ks vs 0 0) (S : St F)
    (hS : S = st_k0_t1 𝒱 c bd i arg2 harg2 arg3 harg3 arg4 harg4 arg5 harg5 arg1 v18 qs v31 v32 v33 (harg3.unread ks) (harg4.unread vs) init (k0_t1_loop i).trips) :
    st_k0_t2 𝒱 c bd i arg2 harg2 arg3 harg3 arg4 harg4 arg5 harg5 arg1 v18 qs v31 v32 v33 (harg3.unread ks) (harg4.unread vs) S (k0_t2_loop i).trips = loopV qs ks vs 0 (i 1).val := by
  refine (congrArg (st_k0_t2 𝒱 c bd i arg2 harg2 arg3 harg3 arg4 harg4 arg5 harg5 arg1 v18 qs v31 v32 v33 (harg3.unread ks) (harg4.unread vs) S) (trips_rest (i 1))).trans ((st_k0_t2_zero ..).trans ?_)
  rw [hS, loop1 𝒱 c bd i arg2 harg2 arg3 harg3 arg4 harg4 arg5 harg5 ks vs arg1 v18 qs v31 v32 v33 init hi]
  exact congrArg _ (trips_main (i 1))

/-- The second group's two loops, the second making no trip, leave the state before the diagonal block. -/
theorem both3 (arg1 : BitVec 32) (v18 : IVec S1024x256 1) (qs : FVec F S1024x128 .bf16) (v97 v98 : FVec F S1024x1 .f32) (v99 : FVec F S1024x128 .f32) (v102 : FVec F S1024x256 .f32) (z v103 : BitVec 32) (init : St F) (hi : init = loopV qs ks vs 1 0) (S : St F)
    (hS : S = st_k0_t3 𝒱 c bd i arg2 harg2 arg3 harg3 arg4 harg4 arg5 harg5 arg1 v18 qs v97 v98 v99 v102 z v103 (harg3.unread ks) (harg4.unread vs) init (k0_t3_loop i).trips) :
    st_k0_t4 𝒱 c bd i arg2 harg2 arg3 harg3 arg4 harg4 arg5 harg5 arg1 v18 qs v97 v98 v99 v102 z v103 (harg3.unread ks) (harg4.unread vs) S (k0_t4_loop i).trips = loopV qs ks vs 1 (i 1).val := by
  refine (congrArg (st_k0_t4 𝒱 c bd i arg2 harg2 arg3 harg3 arg4 harg4 arg5 harg5 arg1 v18 qs v97 v98 v99 v102 z v103 (harg3.unread ks) (harg4.unread vs) S) (trips_rest (i 1))).trans ((st_k0_t4_zero ..).trans ?_)
  rw [hS, loop3 𝒱 c bd i arg2 harg2 arg3 harg3 arg4 harg4 arg5 harg5 ks vs arg1 v18 qs v97 v98 v99 v102 z v103 init hi]
  exact congrArg _ (trips_main (i 1))

/-- The third group's two loops, the second making no trip, leave the state before the diagonal block. -/
theorem both5 (arg1 : BitVec 32) (v134 : FVec F S1024x128 .f32) (v143 : FVec F S256x128 .f32) (a0 a1 a2 a3 : Vec F S1x256x128 .f32) (init : St F) (hi : init = loopV (k0_pay3 a0 a1 a2 a3) ks vs 2 0)
    (arg1' : BitVec 32) (v18 : IVec S1024x256 1) (qs : FVec F S1024x128 .bf16) (v173 : BitVec 32) (w0 w1 : FVec F S1024x1 .f32) (w2 : FVec F S1024x128 .f32) (w3 : FVec F S1024x256 .f32) (S : St F)
    (hS : S = st_k0_t5 𝒱 c bd i arg2 harg2 arg3 harg3 arg4 harg4 arg5 harg5 arg1 v134 v143 a0 a1 a2 a3 (harg3.unread ks) (harg4.unread vs) init (k0_t5_loop i).trips) :
    st_k0_t6 𝒱 c bd i arg2 harg2 arg3 harg3 arg4 harg4 arg5 harg5 arg1' v18 qs v173 w0 w1 w2 w3 (harg3.unread ks) (harg4.unread vs) S (k0_t6_loop i).trips = loopV (k0_pay3 a0 a1 a2 a3) ks vs 2 (i 1).val := by
  refine (congrArg (st_k0_t6 𝒱 c bd i arg2 harg2 arg3 harg3 arg4 harg4 arg5 harg5 arg1' v18 qs v173 w0 w1 w2 w3 (harg3.unread ks) (harg4.unread vs) S) (trips_rest (i 1))).trans ((st_k0_t6_zero ..).trans ?_)
  rw [hS, loop5 𝒱 c bd i arg2 harg2 arg3 harg3 arg4 harg4 arg5 harg5 ks vs arg1 v134 v143 a0 a1 a2 a3 init hi]
  exact congrArg _ (trips_main (i 1))

/-- The fourth group's two loops, the second making no trip, leave the state before the diagonal block. -/
theorem both7 (arg1 : BitVec 32) (v18 : IVec S1024x256 1) (v213 : FVec F S256x128 .f32) (a0 a1 a2 a3 : Vec F S1x256x128 .f32) (init : St F) (hi : init = loopV (k0_pay3 a0 a1 a2 a3) ks vs 3 0) (S : St F)
    (hS : S = st_k0_t7 𝒱 c bd i arg2 harg2 arg3 harg3 arg4 harg4 arg5 harg5 arg1 v18 v213 a0 a1 a2 a3 (harg3.unread ks) (harg4.unread vs) init (k0_t7_loop i).trips) :
    st_k0_t8 𝒱 c bd i arg2 harg2 arg3 harg3 arg4 harg4 arg5 harg5 arg1 v18 v213 a0 a1 a2 a3 (harg3.unread ks) (harg4.unread vs) S (k0_t8_loop i).trips = loopV (k0_pay3 a0 a1 a2 a3) ks vs 3 (i 1).val := by
  refine (congrArg (st_k0_t8 𝒱 c bd i arg2 harg2 arg3 harg3 arg4 harg4 arg5 harg5 arg1 v18 v213 a0 a1 a2 a3 (harg3.unread ks) (harg4.unread vs) S) (trips_rest (i 1))).trans ((st_k0_t8_zero ..).trans ?_)
  rw [hS, loop7 𝒱 c bd i arg2 harg2 arg3 harg3 arg4 harg4 arg5 harg5 ks vs arg1 v18 v213 a0 a1 a2 a3 init hi]
  exact congrArg _ (trips_main (i 1))

end Loops

/-- What the body leaves in its output block at query block `qi`: column `512 * g + 128 * j + d` of row
    `r` is column `d` of row `256 * j + r` of group `g`. -/
def bodyOut (xq : Vec F S1x256x2048 .f32) (ks vs : Vec F S1x1024x512 .bf16) (qi : ℕ) : Vec F S1x256x2048 .f32 := fun y =>
  groupV xq ks vs qi ((y 2).val / 512)
    (ix2 ⟨(256 * ((y 2).val / 128 % 4) + (y 1).val) % 1024, Nat.mod_lt _ (by norm_num)⟩ ⟨(y 2).val % 128, Nat.mod_lt _ (by norm_num)⟩)

/-- One store: 256 rows of a group's vector, under a leading axis of one, at the columns of one head. -/
theorem piece (xq : Vec F S1x256x2048 .f32) (ks vs : Vec F S1x1024x512 .bf16) (qi g : ℕ) {o : ℕ} {S : St F} {vb : Vec F S1x256x128 .bf16} {W : FVec F S1024x128 .f32}
    (hW : W = closeV S vb) (hS : S = loopV (stack xq g) ks vs g qi) (hvb : vb = rowsAt vs qi g) (ho : o % 256 = 0) (ho' : o < 1024)
    {hs : S1024x128.Slices ![o, 0] S256x128} {hc : S256x128.ShapeCasts S1x256x128} (x : S1x256x128.Idx) (y : S1x256x2048.Idx)
    (h1 : (y 1).val = (x 1).val) (h2 : (y 2).val = 512 * g + o / 2 + (x 2).val) :
    shapeCast S1x256x128 (extractStridedSlice S256x128 ![o, 0] W hs) hc x = bodyOut xq ks vs qi y := by
  subst hW hS hvb
  have hx1 : (x 1).val < 256 := (x 1).isLt
  have hx2 : (x 2).val < 128 := (x 2).isLt
  unfold bodyOut
  rw [show (y 2).val / 512 = g by omega]
  unfold groupV
  generalize closeV (loopV (stack xq g) ks vs g qi) (rowsAt vs qi g) = W
  pointwise
  refine congrArg W (congrArg₂ ix2 (Fin.ext ?_) (Fin.ext ?_))
  · show o + (x 1).val = (256 * ((y 2).val / 128 % 4) + (y 1).val) % 1024
    omega
  · show (x 2).val = (y 2).val % 128
    omega

/-- The second group's closing payload. -/
theorem close2 (S : St F) (vb : Vec F S1x256x128 .bf16) : k0_pay43 k0_pay2 S.1 S.2.1 S.2.2.1 S.2.2.2 vb = closeV S vb := rfl

/-- The third group's closing payload. -/
theorem close3 (S : St F) (vb : Vec F S1x256x128 .bf16) : k0_pay66 k0_pay2 S.1 S.2.1 S.2.2.1 S.2.2.2 vb = closeV S vb := rfl

/-- The fourth group's closing payload. -/
theorem close4 (S : St F) (vb : Vec F S1x256x128 .bf16) :
    k0_pay90 S.1 S.2.1 S.2.2.1 (k0_pay89 k0_pay2 S.2.2.2) vb = closeV S vb := rfl

/-- Four loaded heads, stacked, are the group's stack. -/
theorem stack_loads (xq : Vec F S1x256x2048 .f32) (g : ℕ) {a0 a1 a2 a3 : Vec F S1x256x128 .f32} (h0 : a0 = headAt xq (4 * g))
    (h1 : a1 = headAt xq (4 * g + 1)) (h2 : a2 = headAt xq (4 * g + 2)) (h3 : a3 = headAt xq (4 * g + 3)) :
    k0_pay3 a0 a1 a2 a3 = stack xq g := by
  subst h0 h1 h2 h3
  rfl

/-- The state a group's loop starts from. -/
theorem init_loads (qs : FVec F S1024x128 .bf16) (ks vs : Vec F S1x1024x512 .bf16) (g : ℕ) {kb : Vec F S1x256x128 .bf16} (h : kb = rowsAt ks 0 g) :
    ((k0_pay4, k0_pay5, k0_pay6, dotV qs kb) : St F) = loopV qs ks vs g 0 := by
  subst h
  rfl

/-- The loop over equal queries. -/
theorem loop_stack {xq : Vec F S1x256x2048 .f32} {qs : FVec F S1024x128 .bf16} {ks vs : Vec F S1x1024x512 .bf16} {g n : ℕ} {S : St F}
    (h : S = loopV qs ks vs g n) (hq : qs = stack xq g) : S = loopV (stack xq g) ks vs g n := h.trans (by rw [hq])

end Cert.Proof.Body
-- ==== Proof.OutEq.lean ====
/- What the body leaves in the output array, as the functions of `Body`. -/
module
public import proofs.«01_k».proof.Proof.Body
@[expose] public section
set_option maxRecDepth 16384

noncomputable section
namespace Cert.Proof.Body
open Idealize.ShloMosaic Idealize.ShloMosaic.TcCoe Idealize.ShloMosaic.Tactic Cert.KernelIdeal Cert.KernelIdeal.Gen
variable {F : FTy → Type} [FloatOps F] [Named F]

set_option maxHeartbeats 2000000 in
/-- The body's output block, at any query block and over any inputs, is `bodyOut` of them. -/
theorem out_eq (c : Dev nD) (i : grid0.Coords) (arg2 : Memref sig .tc .vmem S1x256x2048 .f32) (harg2 : arg2.IsWhole)
    (arg3 : Memref sig .tc .vmem S1x1024x512 .bf16) (harg3 : arg3.IsWhole) (arg4 : Memref sig .tc .vmem S1x1024x512 .bf16) (harg4 : arg4.IsWhole)
    (arg5 : Memref sig .tc .vmem S1x256x2048 .f32) (harg5 : arg5.IsWhole)
    (xq : Vec F S1x256x2048 .f32) (ks vs : Vec F S1x1024x512 .bf16) (y : S1x256x2048.Idx) :
    out0_A_3 c i arg2 harg2 arg3 harg3 arg4 harg4 arg5 harg5 xq ks vs y = bodyOut xq ks vs (i 1).val y := by
  unfold out0_A_3
  rw [View.read_writes_junk_eq_canon]
  unfold kernelRun0_A
  dsimp only
  canon_tiles x h
  case piece15 | piece14 | piece13 | piece12 =>
    refine piece xq ks vs (i 1).val 0 rfl (hs := by decide) ?_ ?_ (by norm_num) (by norm_num) x y (by omega) (by omega)
    · refine (loop_stack (both1 Variants.none c none i arg2 harg2 arg3 harg3 arg4 harg4 arg5 harg5 ks vs _ _ _ _ _ _ _ (init_loads _ ks vs 0 (load_rows harg3 ks _ _ 0 0 rfl)) _ rfl)
        (stack_loads xq 0 (load_head harg2 xq _ _ 0 rfl) (load_head harg2 xq _ _ 1 rfl) (load_head harg2 xq _ _ 2 rfl) (load_head harg2 xq _ _ 3 rfl)))
    · exact load_rows harg4 vs _ _ (i 1).val 0 (congrArg (fun n => ![0, n, 0]) (off_diag (i 1)))
  case piece11 | piece10 | piece9 | piece8 =>
    refine piece xq ks vs (i 1).val 1 (close2 _ _) (hs := by decide) ?_ ?_ (by norm_num) (by norm_num) x y (by omega) (by omega)
    · refine (loop_stack (both3 Variants.none c none i arg2 harg2 arg3 harg3 arg4 harg4 arg5 harg5 ks vs _ _ _ _ _ _ _ _ _ _ (init_loads _ ks vs 1 (load_rows harg3 ks _ _ 0 1 rfl)) _ rfl)
        (stack_loads xq 1 (load_head harg2 xq _ _ 4 rfl) (load_head harg2 xq _ _ 5 rfl) (load_head harg2 xq _ _ 6 rfl) (load_head harg2 xq _ _ 7 rfl)))
    · exact load_rows harg4 vs _ _ (i 1).val 1 (congrArg (fun n => ![0, n, 128]) (off_diag (i 1)))
  case piece7 | piece6 | piece5 | piece4 =>
    refine piece xq ks vs (i 1).val 2 (close3 _ _) (hs := by decide) ?_ ?_ (by norm_num) (by norm_num) x y (by omega) (by omega)
    · refine (loop_stack (both5 Variants.none c none i arg2 harg2 arg3 harg3 arg4 harg4 arg5 harg5 ks vs _ _ _ _ _ _ _ _ (init_loads _ ks vs 2 (load_rows harg3 ks _ _ 0 2 rfl)) _ _ _ _ _ _ _ _ _ rfl)
        (stack_loads xq 2 (load_head harg2 xq _ _ 8 rfl) (load_head harg2 xq _ _ 9 rfl) (load_head harg2 xq _ _ 10 rfl) (load_head harg2 xq _ _ 11 rfl)))
    · exact load_rows harg4 vs _ _ (i 1).val 2 (congrArg (fun n => ![0, n, 256]) (off_diag (i 1)))
  case piece3 | piece2 | piece1 | piece0 =>
    refine piece xq ks vs (i 1).val 3 (close4 _ _) (hs := by decide) ?_ ?_ (by norm_num) (by norm_num) x y (by omega) (by omega)
    · refine (loop_stack (both7 Variants.none c none i arg2 harg2 arg3 harg3 arg4 harg4 arg5 harg5 ks vs _ _ _ _ _ _ _ _ (init_loads _ ks vs 3 (load_rows harg3 ks _ _ 0 3 rfl)) _ rfl)
        (stack_loads xq 3 (load_head harg2 xq _ _ 12 rfl) (load_head harg2 xq _ _ 13 rfl) (load_head harg2 xq _ _ 14 rfl) (load_head harg2 xq _ _ 15 rfl)))
    · exact load_rows harg4 vs _ _ (i 1).val 3 (congrArg (fun n => ![0, n, 384]) (off_diag (i 1)))

end Cert.Proof.Body
end
-- ==== Proof.Final.lean ====
/- The kernel's result array: the blocks the grid's points leave, put together, and the host lines around them. -/
module

public import proofs.«01_k».proof.Proof.OutEq
public import proofs.«01_k».proof.Proof.Gen.KernelIdeal.Frame
public import Idealize.ShloMosaic.Lib.Pipeline.ValueKit

@[expose] public section

set_option maxRecDepth 16384

noncomputable section

namespace Cert.Proof.Final

open Idealize.ShloMosaic Idealize.ShloMosaic.TcCoe Idealize.ShloMosaic.Tactic Cert.KernelIdeal Cert.KernelIdeal.Gen
open Idealize.ShloMosaic.Pipeline (Dat)
open Cert.Proof.Body

variable {F : FTy → Type} [FloatOps F] [Named F]
variable (m : (ℓ : Loc nD τ sig) → Buf (Elt F) ℓ) (ρ : Dev nD → PrngReg)

/-- Point `t` works on batch `t / 4` and query block `t % 4`. -/
theorem idx_facts : ∀ t : Fin cfg0.N, win0_0.index t = ![t.val / 4, t.val % 4, 0] ∧ win0_1.index t = ![t.val / 4, 0, 0]
    ∧ win0_2.index t = ![t.val / 4, 0, 0] ∧ win0_3.index t = ![t.val / 4, t.val % 4, 0] ∧ (grid0.coords t 1).val = t.val % 4 :=
  (by decide +kernel : ∀ t : Fin grid0.N, _)

/-- The queries of batch `b` in query block `n`. -/
def qBlock (Q : Vec F S4x1024x2048 .f32) (b : Fin 4) (n : ℕ) : Vec F S1x256x2048 .f32 :=
  fun y => Q (ix3 b ⟨(256 * n + (y 1).val) % 1024, Nat.mod_lt _ (by norm_num)⟩ (y 2))

/-- The keys, or the values, of batch `b`. -/
def kvBlock (K : Vec F S4x1024x512 .bf16) (b : Fin 4) : Vec F S1x1024x512 .bf16 := fun y => K (ix3 b (y 1) (y 2))

/-- The array the region leaves, from the three arrays it reads. -/
def whole (Q : Vec F S4x1024x2048 .f32) (K V : Vec F S4x1024x512 .bf16) : Vec F S4x1024x2048 .f32 := fun i =>
  bodyOut (qBlock Q (i 0) ((i 1).val / 256)) (kvBlock K (i 0)) (kvBlock V (i 0)) ((i 1).val / 256)
    (ix3 0 ⟨(i 1).val % 256, Nat.mod_lt _ (by norm_num)⟩ (i 2))

/-- Point `t`'s query block is the block of its batch and query block number. -/
theorem block_q (c : Dev nD) (t : Fin cfg0.N) (b : Fin 4) (hb : b.val = t.val / 4) :
    iblk m c 0 t = qBlock (V m c main_v0) b (t.val % 4) := by
  obtain ⟨e0, e1, e2, e3, e4⟩ := idx_facts t
  funext y
  unfold iblk qBlock
  blk_ext [e0]

/-- Point `t`'s keys are those of its batch. -/
theorem block_k (c : Dev nD) (t : Fin cfg0.N) (b : Fin 4) (hb : b.val = t.val / 4) :
    iblk m c 1 t = kvBlock (V m c main_v2) b := by
  obtain ⟨e0, e1, e2, e3, e4⟩ := idx_facts t
  funext y
  unfold iblk kvBlock
  blk_ext [e1]

/-- Point `t`'s values are those of its batch. -/
theorem block_v (c : Dev nD) (t : Fin cfg0.N) (b : Fin 4) (hb : b.val = t.val / 4) :
    iblk m c 2 t = kvBlock (V m c main_v4) b := by
  obtain ⟨e0, e1, e2, e3, e4⟩ := idx_facts t
  funext y
  unfold iblk kvBlock
  blk_ext [e2]

/-- The region's output array ends as `whole` of the arrays the region finds. -/
theorem final (c : Dev nD) : (dats m 0 c).arrAt 3 cfg0.N = whole (V m c main_v0) (V m c main_v2) (V m c main_v4) := by
  refine (dats m 0 c).arrAt_eq_of_covers 3 _ (by decide +kernel) fun t _ y => ?_
  blk_simp
  rw [after0_3]
  obtain ⟨e0, e1, e2, e3, e4⟩ := idx_facts t
  have ht : t.val < 16 := lt_of_lt_of_eq t.isLt N_0
  refine (out_eq c (grid0.coords t) (ms0_0 t) (hs0_0 t) (ms0_1 t) (hs0_1 t) (ms0_2 t) (hs0_2 t) (ms0_3 t) (hs0_3 t)
    (iblk m c 0 t) (iblk m c 1 t) (iblk m c 2 t) y).trans ?_
  rw [e4]
  have f0 : ((win0_3.blk t).view.emb y 0).val = t.val / 4 := by
    have : (y 0).val < 1 := (y 0).isLt
    blk_simp [e3]
    all_goals omega
  have f1 : ((win0_3.blk t).view.emb y 1).val = 256 * (t.val % 4) + (y 1).val := by
    blk_simp [e3]
    all_goals omega
  have f2 : ((win0_3.blk t).view.emb y 2).val = (y 2).val := by
    blk_simp [e3]
    all_goals omega
  have hy : (y 1).val < 256 := (y 1).isLt
  rw [block_q m c t _ f0, block_k m c t _ f0, block_v m c t _ f0]
  unfold whole
  rw [show ((win0_3.blk t).view.emb y 1).val / 256 = t.val % 4 by omega]
  refine congrArg (bodyOut _ _ _ _) ?_
  funext a
  match a with
  | ⟨0, _⟩ => exact Fin.ext (by have : (y 0).val < 1 := (y 0).isLt; show (y 0).val = 0; omega)
  | ⟨1, _⟩ => exact Fin.ext (by show (y 1).val = ((win0_3.blk t).view.emb y 1).val % 256; omega)
  | ⟨2, _⟩ => exact Fin.ext f2.symm

/-- The region finds the queries reshaped. -/
theorem V_q (c : Dev nD) : V m c main_v0 = shapeCast S4x1024x2048 (m ((c : Thread nD τ).loc main_arg0)) shapeCasts_S4096x16x128_S4x1024x2048 := by
  unfold V V0
  simp only [List.flatten_cons, List.flatten_nil, List.append_nil]
  after_results
  rfl

/-- The region finds the keys reshaped and narrowed. -/
theorem V_k (c : Dev nD) : V m c main_v2
    = truncf .bf16 (shapeCast S4x1024x512 (m ((c : Thread nD τ).loc main_arg1)) shapeCasts_S4096x4x128_S4x1024x512 : FVec F S4x1024x512 .f32) bitsLt_bf16_f32 := by
  unfold V V0
  simp only [List.flatten_cons, List.flatten_nil, List.append_nil]
  after_results
  rfl

/-- The region finds the values reshaped and narrowed. -/
theorem V_v (c : Dev nD) : V m c main_v4
    = truncf .bf16 (shapeCast S4x1024x512 (m ((c : Thread nD τ).loc main_arg2)) shapeCasts_S4096x4x128_S4x1024x512 : FVec F S4x1024x512 .f32) bitsLt_bf16_f32 := by
  unfold V V0
  simp only [List.flatten_cons, List.flatten_nil, List.append_nil]
  after_results
  rfl

/-- What the program returns: the region's array reshaped. -/
def result (c : Dev nD) : Buf (Elt F) ((c : Thread nD τ).loc main_v6) :=
  shapeCast S4096x16x128 (whole (V m c main_v0) (V m c main_v2) (V m c main_v4) : FVec F S4x1024x2048 .f32) shapeCasts_S4x1024x2048_S4096x16x128

/-- The line after the region leaves `result`. -/
theorem tail (c : Dev nD) : Pipeline.afterTail₀ cfgs (dats m) 0 (V0 m) [hostOps1] c main_v6 = result m c := by
  unfold Pipeline.afterTail₀ result
  rw [← final]
  simp only [List.flatten_cons, List.flatten_nil, List.append_nil]
  after_results
  exact congrArg (fun x => shapeCast S4096x16x128 x shapeCasts_S4x1024x2048_S4096x16x128)
    (Pipeline.withArrays_arr (cfgs 0).spec (by decide) c (V0 m c) (fun w => (dats m 0 c).arrAt w (cfgs 0).N) 3)

/-- The run: the result buffer ends at `result`, the arguments unchanged. -/
theorem run : θ_run defs (onTc (τ := τ) (main (F := F))) ⟨m, fun _ => 0, ρ⟩ (fun r => ∀ c : Dev nD,
    r.2.mem ((c.tc : Thread nD τ).loc main_v6) = result m c
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)) :=
  (θ_run defs _ _).mono (fun _ h c => ⟨((h c).2 main_v6 (by decide)).trans (tail m c),
    ((h c).2 main_arg0 (by decide)).trans (W_main_arg0 m (dats m) c), ((h c).2 main_arg1 (by decide)).trans (W_main_arg1 m (dats m) c),
    ((h c).2 main_arg2 (by decide)).trans (W_main_arg2 m (dats m) c), ((h c).2 main_arg3 (by decide)).trans (W_main_arg3 m (dats m) c)⟩) (run_main m ρ)

end Cert.Proof.Final

end
-- ==== Proof.Online.lean ====
/- The arithmetic of one output row: a softmax average kept as a running maximum, a running
   denominator and a running numerator, extended one block of keys at a time in base two, equals the
   softmax average over all keys at once in base e. Over the extended reals, so a masked key is `⊥`. -/
module

public import Idealize.ShloMosaic.PureOps.Ideal

@[expose] public section

noncomputable section

namespace Cert.Proof.Online

open Idealize.ShloMosaic Finset

/-- The largest of the first `n` logits, `⊥` of none. -/
def top (s : ℕ → EReal) (n : ℕ) : EReal := (range n).sup s

/-- The running numerator after `n` keys: each value weighted by two to the logit less the largest. -/
def num (s v : ℕ → EReal) (n : ℕ) : EReal := ∑ k ∈ range n, Ideal.exp2 (s k - top s n) * v k

/-- The running denominator after `n` keys. -/
def den (s : ℕ → EReal) (n : ℕ) : EReal := ∑ k ∈ range n, Ideal.exp2 (s k - top s n)

/-- No key seen yet: the largest logit is `⊥`. -/
theorem top_zero (s : ℕ → EReal) : top s 0 = ⊥ := by simp [top]
/-- No key seen yet: the numerator is zero. -/
theorem num_zero (s v : ℕ → EReal) : num s v 0 = 0 := by simp [num]
/-- No key seen yet: the denominator is zero. -/
theorem den_zero (s : ℕ → EReal) : den s 0 = 0 := by simp [den]

/-- The denominator is the numerator of the constant value one. -/
theorem den_eq_num (s : ℕ → EReal) (n : ℕ) : den s n = num s (fun _ => 1) n := by simp [den, num]

/-- A block of `b` further keys raises the largest logit to its own largest, if that is larger. -/
theorem top_add (s : ℕ → EReal) (n b : ℕ) :
    top s (n + b) = max (top s n) ((range b).sup fun k => s (n + k)) := by
  induction b with
  | zero => simp
  | succ b ih =>
    rw [← Nat.add_assoc, top, range_add_one, sup_insert, range_add_one, sup_insert]
    rw [show (range (n + b)).sup s = top s (n + b) from rfl, ih]
    exact max_left_comm ..

/-- Each logit seen is at most the largest. -/
theorem le_top (s : ℕ → EReal) {n k : ℕ} (h : k < n) : s k ≤ top s n :=
  Finset.le_sup (f := s) (mem_range.mpr h)

/-- The largest of logits none of which is `⊤` is not `⊤`. -/
theorem top_ne_top {s : ℕ → EReal} (hs : ∀ k, s k ≠ ⊤) (n : ℕ) : top s n ≠ ⊤ := by
  rw [← lt_top_iff_ne_top, top, Finset.sup_lt_iff (by exact bot_lt_top)]
  exact fun k _ => lt_top_iff_ne_top.mpr (hs k)

/-- Two to any power is nonnegative. -/
theorem exp2_nonneg (x : EReal) : 0 ≤ Ideal.exp2 x := by
  induction x with
  | bot => simp
  | top => simp
  | coe r => rw [Ideal.exp2_coe]; exact_mod_cast Real.rpow_nonneg (by norm_num) r

/-- Two to a power other than `⊤` is finite. -/
theorem exp2_ne_top {x : EReal} (h : x ≠ ⊤) : Ideal.exp2 x ≠ ⊤ := by
  induction x with
  | bot => simp
  | top => exact absurd rfl h
  | coe r => rw [Ideal.exp2_coe]; exact EReal.coe_ne_top _

/-- A difference of which the first term is not `⊤` and lies below the second is not `⊤`. -/
theorem sub_ne_top {x m : EReal} (hx : x ≠ ⊤) (h : x ≤ m) : x - m ≠ ⊤ := by
  induction m with
  | bot => rw [le_bot_iff.mp h]; simp
  | top => simp
  | coe r =>
    induction x with
    | bot => simp
    | top => exact absurd rfl hx
    | coe x => exact EReal.coe_ne_top (x - r)

/-- A weight taken against one maximum, rescaled to a larger one, is the weight against the larger. -/
theorem exp2_rescale {x m m' : EReal} (hm' : m' ≠ ⊤) (h : x ≤ m) (h' : m ≤ m') :
    Ideal.exp2 (x - m) * Ideal.exp2 (m - m') = Ideal.exp2 (x - m') := by
  induction x with
  | bot => simp
  | top => exact absurd (top_le_iff.mp ((top_le_iff.mp h) ▸ h')) hm'
  | coe x =>
    induction m with
    | bot => exact absurd h (by simp)
    | top => exact absurd (top_le_iff.mp h') hm'
    | coe m =>
      induction m' with
      | bot => exact absurd h' (by simp)
      | top => exact absurd rfl hm'
      | coe m' =>
        rw [← EReal.coe_sub, ← EReal.coe_sub, ← EReal.coe_sub, Ideal.exp2_coe, Ideal.exp2_coe, Ideal.exp2_coe,
          ← EReal.coe_mul]
        congr 1
        simp only [Real.rpow_eq_pow]
        rw [← Real.rpow_add (by norm_num)]
        congr 1
        ring

/-- A finite nonnegative factor goes into a sum. -/
theorem sum_mul_of_nonneg {ι : Type} (A : Finset ι) (f : ι → EReal) {c : EReal} (h0 : 0 ≤ c) (ht : c ≠ ⊤) :
    (∑ k ∈ A, f k) * c = ∑ k ∈ A, f k * c := by
  classical
  induction A using Finset.induction_on with
  | empty => simp
  | insert a A ha ih =>
    rw [sum_insert ha, sum_insert ha, EReal.right_distrib_of_nonneg_of_ne_top h0 ht, ih]

/-- A sum of reals is the same sum of extended reals. -/
theorem coe_sum {ι : Type} (A : Finset ι) (f : ι → ℝ) : ((∑ k ∈ A, f k : ℝ) : EReal) = ∑ k ∈ A, ((f k : ℝ) : EReal) := by
  classical
  induction A using Finset.induction_on with
  | empty => simp
  | insert a A ha ih => rw [sum_insert ha, sum_insert ha, EReal.coe_add, ih]

/-- A block of `b` further keys: the numerator is rescaled to the new largest logit and the block's
    weighted values are added. -/
theorem num_add {s : ℕ → EReal} (hs : ∀ k, s k ≠ ⊤) (v : ℕ → EReal) (n b : ℕ) :
    num s v (n + b) = num s v n * Ideal.exp2 (top s n - top s (n + b))
      + ∑ k ∈ range b, Ideal.exp2 (s (n + k) - top s (n + b)) * v (n + k) := by
  have hle : top s n ≤ top s (n + b) := by rw [top_add]; exact le_max_left ..
  have ht := top_ne_top hs (n + b)
  conv_lhs => rw [num, sum_range_add]
  congr 1
  rw [num, sum_mul_of_nonneg _ _ (exp2_nonneg _) (exp2_ne_top (sub_ne_top (top_ne_top hs n) hle))]
  refine sum_congr rfl fun k hk => ?_
  rw [mul_right_comm, exp2_rescale ht (le_top s (mem_range.mp hk)) hle]

/-- The denominator is extended by a block likewise. -/
theorem den_add {s : ℕ → EReal} (hs : ∀ k, s k ≠ ⊤) (n b : ℕ) :
    den s (n + b) = den s n * Ideal.exp2 (top s n - top s (n + b))
      + ∑ k ∈ range b, Ideal.exp2 (s (n + k) - top s (n + b)) := by
  rw [den_eq_num, den_eq_num, num_add hs]
  simp

/-- The largest of finitely many logits, one of them real and none `⊤`, is real. -/
theorem top_real {t : ℕ → EReal} (ht : ∀ k, t k ≠ ⊤) {n : ℕ} (hn : 0 < n) (h0 : t 0 ≠ ⊥) : ∃ M : ℝ, top t n = M := by
  have h1 := top_ne_top ht n
  have h2 : top t n ≠ ⊥ := fun h => h0 (le_bot_iff.mp (h ▸ le_top t hn))
  exact ⟨(top t n).toReal, (EReal.coe_toReal h1 h2).symm⟩

/-- Multiplying every logit by one positive real multiplies the largest by it. -/
theorem top_scale (t : ℕ → EReal) {c : ℝ} (hc : 0 < c) (n : ℕ) : top (fun k => t k * (c : EReal)) n = top t n * (c : EReal) := by
  rw [top, top]
  refine (Finset.comp_sup_eq_sup_comp_of_is_total (fun x : EReal => x * (c : EReal)) ?_ ?_).symm
  · exact fun a b h => mul_le_mul_of_nonneg_right h (by exact_mod_cast hc.le)
  · exact EReal.bot_mul_coe_of_pos hc

/-- Two to a logit difference in units of `log 2` is `e` to the difference. -/
theorem exp2_scale {x : EReal} (hx : x ≠ ⊤) (M : ℝ) :
    Ideal.exp2 (x * (((Real.log 2)⁻¹ : ℝ) : EReal) - (M : EReal) * (((Real.log 2)⁻¹ : ℝ) : EReal)) = Ideal.exp (x - M) := by
  have hl : 0 < Real.log 2 := Real.log_pos (by norm_num)
  induction x with
  | bot => rw [EReal.bot_mul_coe_of_pos (inv_pos.mpr hl)]; simp
  | top => exact absurd rfl hx
  | coe x =>
    rw [← EReal.coe_mul, ← EReal.coe_mul, ← EReal.coe_sub, ← EReal.coe_sub, Ideal.exp2_coe, Ideal.exp_coe]
    congr 1
    simp only [Real.rpow_eq_pow]
    rw [Real.rpow_def_of_pos (by norm_num)]
    congr 1
    field_simp

/-- The exponential of a difference from a real number is a nonnegative real. -/
theorem exp_sub_real {x : EReal} (hx : x ≠ ⊤) (M : ℝ) : ∃ r : ℝ, 0 ≤ r ∧ Ideal.exp (x - M) = r := by
  induction x with
  | bot => exact ⟨0, le_rfl, by simp⟩
  | top => exact absurd rfl hx
  | coe x => exact ⟨Real.exp (x - M), (Real.exp_pos _).le, by rw [← EReal.coe_sub, Ideal.exp_coe]⟩

/-- The running quotient over the first `n` keys, in base two on logits in units of `log 2`, is the
    softmax average over all `N` keys in base `e`, when every key past the first `n` is masked. -/
theorem quotient {t : ℕ → EReal} (v : ℕ → EReal) (ht : ∀ k, t k ≠ ⊤) (h0 : t 0 ≠ ⊥) {n N : ℕ} (hn : 0 < n) (hnN : n ≤ N)
    (hmask : ∀ k, n ≤ k → k < N → t k = ⊥) :
    Ideal.div (num (fun k => t k * (((Real.log 2)⁻¹ : ℝ) : EReal)) v n) (den (fun k => t k * (((Real.log 2)⁻¹ : ℝ) : EReal)) n)
      = ∑ k ∈ range N, Ideal.div (Ideal.exp (t k - top t N)) (∑ j ∈ range N, Ideal.exp (t j - top t N)) * v k := by
  have hl : 0 < Real.log 2 := Real.log_pos (by norm_num)
  have htop : top t N = top t n := by
    obtain ⟨d, rfl⟩ := Nat.exists_eq_add_of_le hnN
    rw [top_add, max_eq_left]
    refine Finset.sup_le fun k hk => ?_
    rw [hmask _ (Nat.le_add_right ..) (Nat.add_lt_add_left (mem_range.mp hk) n)]
    exact bot_le
  obtain ⟨M, hM⟩ := top_real ht hn h0
  have hw : ∀ k, Ideal.exp2 (t k * (((Real.log 2)⁻¹ : ℝ) : EReal) - top (fun k => t k * (((Real.log 2)⁻¹ : ℝ) : EReal)) n) = Ideal.exp (t k - M) :=
    fun k => by rw [top_scale t (inv_pos.mpr hl), hM, exp2_scale (ht k)]
  choose w hw0 hwr using fun k => exp_sub_real (ht k) M
  have hz : ∀ k, n ≤ k → k < N → w k = 0 := fun k h h' => by
    have := hwr k
    rw [hmask k h h'] at this
    simpa using this.symm
  have hcut : ∀ f : ℕ → EReal, (∀ k, n ≤ k → k < N → f k = 0) → ∑ k ∈ range N, f k = ∑ k ∈ range n, f k := fun f hf =>
    (sum_subset (range_mono hnN) fun k hk hk' => hf k (not_lt.mp fun h => hk' (mem_range.mpr h)) (mem_range.mp hk)).symm
  have hden : (∑ k ∈ range n, ((w k : ℝ) : EReal)) = ((∑ k ∈ range n, w k : ℝ) : EReal) := (coe_sum ..).symm
  have hw00 : 0 < w 0 := by
    have h := hwr 0
    have hx : t 0 = ((t 0).toReal : EReal) := (EReal.coe_toReal (ht 0) h0).symm
    rw [hx, ← EReal.coe_sub, Ideal.exp_coe] at h
    rw [← EReal.coe_eq_coe_iff.mp h]
    exact Real.exp_pos _
  have hpos : 0 < ∑ k ∈ range n, w k := sum_pos' (fun k _ => hw0 k) ⟨0, mem_range.mpr hn, hw00⟩
  rw [num, den, htop, hM]
  simp only [hw, hwr]
  rw [hcut (fun k => (w k : EReal)) fun k h h' => by simp [hz k h h'], hden,
    hcut _ fun k h h' => by simp [hz k h h', Ideal.div_coe hpos.ne'], Ideal.div_coe hpos.ne',
    sum_mul_of_nonneg _ _ (by exact_mod_cast (one_div_pos.mpr hpos).le) (EReal.coe_ne_top _)]
  refine sum_congr rfl fun k _ => ?_
  rw [Ideal.div_coe hpos.ne', mul_right_comm]

/-- The maximum's starting word is `⊥`. -/
theorem neg_inf : Ideal.ofBits .f32 0xFF800000#32 = ⊥ := by simp [Ideal.ofBits, Ideal.ieee]

/-- A fold of `max` over a block's columns is the supremum over the block's keys. -/
theorem fold_block {b : ℕ} (f : Fin b → EReal) (g : ℕ → EReal) (h : ∀ c : Fin b, f c = g c.val) :
    univ.fold max (Ideal.ofBits .f32 0xFF800000#32) f = (range b).sup g := by
  rw [neg_inf]
  refine le_antisymm (Finset.sup_le (f := f) fun c _ => ?_) (Finset.sup_le fun k hk => ?_)
  · rw [h c]
    exact Finset.le_sup (f := g) (mem_range.mpr c.isLt)
  · rw [← h ⟨k, mem_range.mp hk⟩]
    exact Finset.le_sup (f := f) (mem_univ _)

/-- A sum over a block's columns is the sum over the block's keys. -/
theorem sum_block {b : ℕ} (f : Fin b → EReal) (g : ℕ → EReal) (h : ∀ c : Fin b, f c = g c.val) :
    ∑ c, f c = ∑ k ∈ range b, g k := by
  rw [← Fin.sum_univ_eq_sum_range]
  exact sum_congr rfl fun c _ => h c

/-- The logits with those of the keys after place `p` masked. -/
def upto (t : ℕ → EReal) (p κ : ℕ) : EReal := if κ ≤ p then t κ else ⊥

/-- The scale the queries are multiplied by: one over the root of the head dimension, over the logarithm of two. -/
def unit : EReal := (((Real.sqrt 128)⁻¹ * (Real.log 2)⁻¹ : ℝ) : EReal)

end Cert.Proof.Online

end
-- ==== Proof.Row.lean ====
/- The body's functions read at the ideal values, one row at a time: after each block the carried
   maximum, denominator and numerator are those of the keys seen, and the closing step divides them. -/
module

public import proofs.«01_k».proof.Proof.Body
public import proofs.«01_k».proof.Proof.Online
public import Idealize.ShloMosaic.Lib.WordCmp

@[expose] public section

set_option maxRecDepth 16384

noncomputable section

namespace Cert.Proof.Row

open Idealize.ShloMosaic Idealize.ShloMosaic.TcCoe Idealize.ShloMosaic.Tactic Cert.KernelIdeal Cert.KernelIdeal.Gen
open Cert.Proof.Body Cert.Proof.Online Finset

/-- The mask constant is `⊥`. -/
theorem mask_val : (Named.named κ "mask" 0xF149F2CA#32 : Ideal .f32) = ⊥ := rfl

/-- The carried row: maximum, denominator and numerator of the first `n` keys. -/
structure Inv (st : St Ideal) (r : Fin 1024) (s : ℕ → EReal) (v : Fin 128 → ℕ → EReal) (n : ℕ) : Prop where
  m : st.1 (ix2 r (0 : Fin 1)) = top s n
  l : st.2.1 (ix2 r (0 : Fin 1)) = den s n
  a : ∀ d, st.2.2.1 (ix2 r d) = num s (v d) n

/-- A step takes in the 256 keys of a block. -/
theorem step_inv {st : St Ideal} {r : Fin 1024} {s : ℕ → EReal} {v : Fin 128 → ℕ → EReal} {n : ℕ} (h : Inv st r s v n) (hs : ∀ k, s k ≠ ⊤)
    (hz : ∀ c : Fin 256, st.2.2.2 (ix2 r c) = s (n + c.val)) {vb : Vec Ideal S1x256x128 .bf16} (hv : ∀ (c : Fin 256) d, vb (ix3 (0 : Fin 1) c d) = v d (n + c.val))
    (nxt : FVec Ideal S1024x256 .f32) : Inv (stepV vb nxt st) r s v (n + 256) := by
  have hm : max (st.1 (ix2 r (0 : Fin 1))) (univ.fold max (Ideal.ofBits .f32 0xFF800000#32) fun c : Fin 256 => st.2.2.2 (ix2 r c)) = top s (n + 256) := by
    rw [fold_block _ (fun k => s (n + k)) hz, h.m, top_add]
  refine ⟨?_, ?_, fun d => ?_⟩
  · unfold stepV
    pointwise [k0_pay9]
    exact hm
  · unfold stepV
    pointwise [k0_pay9, k0_pay10, k0_pay11, k0_pay13]
    rw [den_add hs]
    refine congrArg₂ (· + ·) (congrArg₂ (· * ·) h.l (congrArg Ideal.exp2 (congrArg₂ (· - ·) h.m hm)))
      (sum_block _ (fun k => Ideal.exp2 (s (n + k) - top s (n + 256))) fun c => congrArg Ideal.exp2 (congrArg₂ (· - ·) (hz c) hm))
  · unfold stepV
    pointwise [k0_pay9, k0_pay10, k0_pay11, k0_pay12]
    rw [num_add hs]
    refine congrArg₂ (· + ·) (congrArg₂ (· * ·) (h.a d) (congrArg Ideal.exp2 (congrArg₂ (· - ·) h.m hm)))
      (sum_block _ (fun k => Ideal.exp2 (s (n + k) - top s (n + 256)) * v d (n + k)) fun c =>
        congrArg₂ (· * ·) (congrArg Ideal.exp2 (congrArg₂ (· - ·) (hz c) hm)) (hv c d))

/-- The logits of a block, at a row and a column: the query row against the key row. -/
theorem dot_at (qs : FVec Ideal S1024x128 .bf16) (kb : Vec Ideal S1x256x128 .bf16) (r : Fin 1024) (c : Fin 256) :
    dotV qs kb (ix2 r c) = ∑ e : Fin 128, (qs (ix2 r e) : EReal) * (kb (ix3 (0 : Fin 1) c e) : EReal) := by
  unfold dotV
  pointwise [k0_pay8]

/-- The scale constant is `unit`. -/
theorem scale_val : (Named.named κ "scale_log2e" 0x3E0293EE#32 : Ideal .f32) = unit := rfl

/-- The stacked queries at a row. -/
theorem stack_at (xq : Vec Ideal S1x256x2048 .f32) (g : ℕ) (hg : g < 4) (r : Fin 1024) (d : Fin 128) :
    stack xq g (ix2 r d) = (xq (ix3 (0 : Fin 1) (⟨r.val % 256, Nat.mod_lt _ (by norm_num)⟩ : Fin 256)
      (⟨512 * g + 128 * (r.val / 256) + d.val, by omega⟩ : Fin 2048)) : EReal) * unit := by
  have key : ∀ (h : ℕ) (x : Fin 256), h = 4 * g + r.val / 256 → x.val = r.val % 256 → headAt xq h (ix3 (0 : Fin 1) x d)
      = xq (ix3 (0 : Fin 1) (⟨r.val % 256, Nat.mod_lt _ (by norm_num)⟩ : Fin 256) (⟨512 * g + 128 * (r.val / 256) + d.val, by omega⟩ : Fin 2048)) :=
    fun h x h1 h2 => congrArg xq (congrArg₂ (ix3 (0 : Fin 1)) (Fin.ext (by show x.val % 256 = r.val % 256; omega))
      (Fin.ext (by show (128 * h + d.val) % 2048 = 512 * g + 128 * (r.val / 256) + d.val; omega)))
  unfold stack
  pointwise [k0_pay3]
  refine congrArg₂ (· * ·) ?_ scale_val
  split
  · exact key _ _ (by omega) (by show r.val = _; omega)
  split
  · exact key _ _ (by omega) (by show r.val - 256 = _; omega)
  split
  · exact key _ _ (by omega) (by show r.val - 256 - 256 = _; omega)
  · exact key _ _ (by omega) (by show r.val - 256 - 256 - 256 = _; omega)

/-- The row word of the mask: the row within its head. -/
theorem mask_row : ∀ r : Fin 1024, IntOp.remsi ArithUnit.vector (BitVec.ofNat 32 r.val) (Scalar.select (Scalar.cmpi CmpIPredicate.eq 256#32 0#32) 1#32 256#32)
    = BitVec.ofNat 32 (r.val % 256) := by
  decide +kernel

/-- A row within its head is not below zero, so the mask's correction of a negative remainder is not taken. -/
theorem mask_fix : ∀ x : Fin 256, Scalar.select
      (IntOp.andi (IntOp.xori (IntOp.cmpi CmpIPredicate.slt (BitVec.ofNat 32 x.val) 0#32)
          (Scalar.cmpi CmpIPredicate.slt (Scalar.select (Scalar.cmpi CmpIPredicate.eq 256#32 0#32) 1#32 256#32) 0#32))
        (IntOp.cmpi CmpIPredicate.ne (BitVec.ofNat 32 x.val) 0#32))
      (IntOp.addi (BitVec.ofNat 32 x.val) (Scalar.select (Scalar.cmpi CmpIPredicate.eq 256#32 0#32) 1#32 256#32)) (BitVec.ofNat 32 x.val)
    = BitVec.ofNat 32 x.val := by
  decide +kernel

/-- The mask keeps the keys up to the row's own place. -/
theorem mask_at (r : Fin 1024) (c : Fin 256) : k0_pay2 (ix2 r c) = BitVec.ofBool (decide (c.val ≤ r.val % 256)) := by
  pointwise [k0_pay2]
  rw [mask_row, mask_fix ⟨r.val % 256, Nat.mod_lt _ (by norm_num)⟩]
  word_cmp

/-- The state with the logits of the diagonal block masked. -/
def masked (st : St Ideal) : St Ideal := (st.1, st.2.1, st.2.2.1, select k0_pay2 st.2.2.2 (broadcast S1024x256 (Named.named κ "mask" 0xF149F2CA#32)))

/-- The masked logits: those up to the row's own place, the others `⊥`. -/
theorem masked_at (st : St Ideal) (r : Fin 1024) (c : Fin 256) :
    (masked st).2.2.2 (ix2 r c) = if c.val ≤ r.val % 256 then st.2.2.2 (ix2 r c) else ⊥ := by
  show Scalar.select (k0_pay2 (ix2 r c)) (st.2.2.2 (ix2 r c)) (Named.named κ "mask" 0xF149F2CA#32 : Ideal .f32) = _
  rw [mask_at, mask_val]
  by_cases h : c.val ≤ r.val % 256
  · rw [if_pos h, decide_eq_true h]
    rfl
  · rw [if_neg h, decide_eq_false h]
    rfl

/-- The closing step is a step over the masked logits, then a division. -/
theorem close_at (vb : Vec Ideal S1x256x128 .bf16) (st : St Ideal) (r : Fin 1024) (d : Fin 128) :
    closeV st vb (ix2 r d) = Ideal.div ((stepV vb st.2.2.2 (masked st)).2.2.1 (ix2 r d)) ((stepV vb st.2.2.2 (masked st)).2.1 (ix2 r (0 : Fin 1))) := by
  have : closeV st vb = divf (stepV vb st.2.2.2 (masked st)).2.2.1 (broadcastTo S1024x128 (stepV vb st.2.2.2 (masked st)).2.1 broadcasts_S1024x1_S1024x128) := rfl
  rw [this]
  generalize stepV vb st.2.2.2 _ = st'
  pointwise

section Group

variable (xq : Vec Ideal S1x256x2048 .f32) (ks vs : Vec Ideal S1x1024x512 .bf16) (g : ℕ) (hg : g < 4) (r : Fin 1024)

/-- The logit of a row of a group's stacked queries against key `κ`. -/
def logit (κ : ℕ) : EReal := ∑ e : Fin 128,
  (xq (ix3 (0 : Fin 1) (⟨r.val % 256, Nat.mod_lt _ (by norm_num)⟩ : Fin 256) (⟨512 * g + 128 * (r.val / 256) + e.val, by omega⟩ : Fin 2048)) : EReal)
    * unit * (ks (ix3 (0 : Fin 1) (⟨κ % 1024, Nat.mod_lt _ (by norm_num)⟩ : Fin 1024) (⟨128 * g + e.val, by omega⟩ : Fin 512)) : EReal)

/-- Column `d` of the value of key `κ`. -/
def value (d : Fin 128) (κ : ℕ) : EReal :=
  vs (ix3 (0 : Fin 1) (⟨κ % 1024, Nat.mod_lt _ (by norm_num)⟩ : Fin 1024) (⟨128 * g + d.val, by omega⟩ : Fin 512))

/-- The value block at a row. -/
theorem rows_value (n : ℕ) (c : Fin 256) (d : Fin 128) :
    rowsAt vs n g (ix3 (0 : Fin 1) c d) = value vs g hg d (256 * n + c.val) :=
  congrArg vs (congrArg₂ (ix3 (0 : Fin 1)) rfl (Fin.ext (Nat.mod_eq_of_lt (by show 128 * g + d.val < 512; omega))))

/-- The block of logits at a row. -/
theorem dot_logit (n : ℕ) (c : Fin 256) :
    dotV (stack xq g) (rowsAt ks n g) (ix2 r c) = logit xq ks g hg r (256 * n + c.val) := by
  rw [dot_at]
  refine sum_congr rfl fun e _ => congrArg₂ (· * ·) (stack_at xq g hg r e) ?_
  exact congrArg ks (congrArg₂ (ix3 (0 : Fin 1)) rfl (Fin.ext (Nat.mod_eq_of_lt (by show 128 * g + e.val < 512; omega))))

/-- The logits a state carries are those of its block. -/
theorem loop_logit (n : ℕ) (c : Fin 256) :
    (loopV (stack xq g) ks vs g n).2.2.2 (ix2 r c) = logit xq ks g hg r (256 * n + c.val) := by
  cases n with
  | zero => exact dot_logit xq ks g hg r 0 c
  | succ n => exact dot_logit xq ks g hg r (n + 1) c

/-- Before block `n` the carried row is that of the `256 * n` keys seen. -/
theorem loop_inv (p : ℕ) (hp : ∀ κ, logit xq ks g hg r κ ≠ ⊤) (n : ℕ) (hn : 256 * n ≤ p + 1) :
    Inv (loopV (stack xq g) ks vs g n) r (upto (logit xq ks g hg r) p) (value vs g hg) (256 * n) := by
  have hs : ∀ k, upto (logit xq ks g hg r) p k ≠ ⊤ := fun k => by
    unfold upto
    split
    · exact hp k
    · exact bot_ne_top
  induction n with
  | zero =>
    refine ⟨?_, ?_, fun d => ?_⟩
    · rw [Nat.mul_zero, top_zero]
      exact mask_val
    · rw [Nat.mul_zero, den_zero]
      unfold loopV
      pointwise [k0_pay5]
    · rw [Nat.mul_zero, num_zero]
      unfold loopV
      pointwise [k0_pay6]
  | succ n ih =>
    refine step_inv (ih (by omega)) hs (fun c => ?_) (rows_value vs g hg n) _
    rw [loop_logit, upto, if_pos (by omega)]

/-- What the body computes at a row of a group: the numerator of the keys up to the row's own, over the denominator. -/
theorem group_at (qi : ℕ) (hp : ∀ κ, logit xq ks g hg r κ ≠ ⊤) (d : Fin 128) :
    groupV xq ks vs qi g (ix2 r d)
      = Ideal.div (num (upto (logit xq ks g hg r) (256 * qi + r.val % 256)) (value vs g hg d) (256 * qi + 256))
          (den (upto (logit xq ks g hg r) (256 * qi + r.val % 256)) (256 * qi + 256)) := by
  have h := loop_inv xq ks vs g hg r (256 * qi + r.val % 256) hp qi (by omega)
  have hs : ∀ k, upto (logit xq ks g hg r) (256 * qi + r.val % 256) k ≠ ⊤ := fun k => by
    unfold upto
    split
    · exact hp k
    · exact bot_ne_top
  have h' := step_inv (st := masked (loopV (stack xq g) ks vs g qi)) ⟨h.m, h.l, h.a⟩ hs (fun c => by
    rw [masked_at, loop_logit xq ks vs g hg, upto]
    exact if_congr (by omega) rfl rfl) (rows_value vs g hg qi) (loopV (stack xq g) ks vs g qi).2.2.2
  unfold groupV
  rw [close_at, h'.a d, h'.l]

end Group

end Cert.Proof.Row
-- ==== Proof.Spec.lean ====
/- The two spellings of one attention row's logits, the scale folded into the queries or divided out of
   their products, and that a row's average comes to the same from either. -/
module

public import proofs.«01_k».proof.Proof.Online

@[expose] public section

noncomputable section

namespace Cert.Proof.Spec

open Idealize.ShloMosaic Finset Cert.Proof.Online

/-- The token at place `k` of batch `b`. -/
def tok (b : Fin 4) (k : ℕ) : Fin 4096 := ⟨1024 * b.val + k % 1024, by have := Nat.mod_lt k (by norm_num : 0 < 1024); omega⟩

/-- The key head that query head `h` reads. -/
def kvHead (h : Fin 16) : Fin 4 := ⟨h.val / 4, by omega⟩

variable (Q : Fin 4096 → Fin 16 → Fin 128 → EReal) (K V : Fin 4096 → Fin 4 → Fin 128 → EReal) (b : Fin 4) (h : Fin 16) (r : ℕ)

/-- The logit with the scale multiplied into the query. -/
def innerLogit (κ : ℕ) : EReal := ∑ e : Fin 128, Q (tok b r) h e * unit * K (tok b κ) (kvHead h) e

/-- The logit with the product divided by the scale's root. -/
def outerLogit (κ : ℕ) : EReal := Ideal.div (∑ e : Fin 128, Q (tok b r) h e * K (tok b κ) (kvHead h) e) ((Real.sqrt 128 : ℝ) : EReal)

/-- Over finite queries and keys the two logits are real, and differ by the logarithm of two. -/
theorem logits (hQ : ∀ t g e, ∃ x : ℝ, Q t g e = x) (hK : ∀ t g e, ∃ x : ℝ, K t g e = x) (κ : ℕ) :
    ∃ x : ℝ, outerLogit Q K b h r κ = x ∧ innerLogit Q K b h r κ = x * (((Real.log 2)⁻¹ : ℝ) : EReal) := by
  choose q hq using hQ
  choose k hk using hK
  have h128 : Real.sqrt 128 ≠ 0 := by positivity
  refine ⟨(∑ e : Fin 128, q (tok b r) h e * k (tok b κ) (kvHead h) e) / Real.sqrt 128, ?_, ?_⟩
  · unfold outerLogit
    simp only [hq, hk, ← EReal.coe_mul]
    rw [← coe_sum, Ideal.div_coe h128, ← EReal.coe_mul, mul_one_div]
  · unfold innerLogit unit
    simp only [hq, hk, ← EReal.coe_mul]
    rw [← coe_sum, Finset.sum_div, Finset.sum_mul]
    refine congrArg _ (sum_congr rfl fun e _ => ?_)
    field_simp

/-- A row's average, its keys taken in block by block in base two, is its softmax average. -/
theorem meet (hQ : ∀ t g e, ∃ x : ℝ, Q t g e = x) (hK : ∀ t g e, ∃ x : ℝ, K t g e = x) (hr : r < 1024) (v : ℕ → EReal) :
    Ideal.div (num (upto (innerLogit Q K b h r) r) v (256 * (r / 256) + 256)) (den (upto (innerLogit Q K b h r) r) (256 * (r / 256) + 256))
      = ∑ κ ∈ range 1024, Ideal.div (Ideal.exp (upto (outerLogit Q K b h r) r κ - top (upto (outerLogit Q K b h r) r) 1024))
          (∑ j ∈ range 1024, Ideal.exp (upto (outerLogit Q K b h r) r j - top (upto (outerLogit Q K b h r) r) 1024)) * v κ := by
  have hl : 0 < (Real.log 2)⁻¹ := inv_pos.mpr (Real.log_pos (by norm_num))
  have hs : upto (innerLogit Q K b h r) r = fun κ => upto (outerLogit Q K b h r) r κ * (((Real.log 2)⁻¹ : ℝ) : EReal) := by
    funext κ
    obtain ⟨x, hx, hx'⟩ := logits Q K b h r hQ hK κ
    unfold upto
    split
    · rw [hx, hx']
    · rw [EReal.bot_mul_coe_of_pos hl]
  rw [hs]
  refine quotient v (fun κ => ?_) ?_ (by omega) (by omega) fun κ h1 _ => if_neg (by omega)
  · obtain ⟨x, hx, -⟩ := logits Q K b h r hQ hK κ
    unfold upto
    split
    · rw [hx]
      exact EReal.coe_ne_top _
    · exact bot_ne_top
  · obtain ⟨x, hx, -⟩ := logits Q K b h r hQ hK 0
    rw [upto, if_pos (Nat.zero_le _), hx]
    exact EReal.coe_ne_bot _

end Cert.Proof.Spec

end
-- ==== Proof.Value.lean ====
/- The kernel's result read at a token, a head and a column. -/
module

public import proofs.«01_k».proof.Proof.Final
public import proofs.«01_k».proof.Proof.Row
public import proofs.«01_k».proof.Proof.Spec

@[expose] public section

set_option maxRecDepth 16384

noncomputable section

namespace Cert.Proof.Value

open Idealize.ShloMosaic Idealize.ShloMosaic.TcCoe Idealize.ShloMosaic.Tactic Cert.KernelIdeal Cert.KernelIdeal.Gen
open Cert.Proof.Body Cert.Proof.Final Cert.Proof.Row Cert.Proof.Online Cert.Proof.Spec

/-- Indices of equal coordinates are equal. -/
theorem ix3_congr {a b c : ℕ} {i i' : Fin a} {j j' : Fin b} {l l' : Fin c} (hi : i = i') (hj : j = j') (hl : l = l') : ix3 i j l = ix3 i' j' l' := by
  rw [hi, hj, hl]

/-- The queries by batch and row, their heads side by side. -/
theorem q_at (q : FVec Ideal S4096x16x128 .f32) (b : Fin 4) (r : Fin 1024) (h : Fin 16) (e : Fin 128) :
    shapeCast S4x1024x2048 q shapeCasts_S4096x16x128_S4x1024x2048 (ix3 b r (⟨128 * h.val + e.val, by omega⟩ : Fin 2048)) = q (ix3 (tok b r.val) h e) := by
  pointwise
  exact congrArg (fun t => q (ix3 t h e)) (Fin.ext (by show b.val * 1024 + r.val = 1024 * b.val + r.val % 1024; omega))

/-- The keys, or the values, by batch and row, their heads side by side. -/
theorem k_at (k : FVec Ideal S4096x4x128 .f32) (b : Fin 4) (r : Fin 1024) (g : Fin 4) (e : Fin 128) :
    truncf .bf16 (shapeCast S4x1024x512 k shapeCasts_S4096x4x128_S4x1024x512 : FVec Ideal S4x1024x512 .f32) bitsLt_bf16_f32
      (ix3 b r (⟨128 * g.val + e.val, by omega⟩ : Fin 512)) = k (ix3 (tok b r.val) g e) := by
  pointwise
  exact congrArg (fun t => k (ix3 t g e)) (Fin.ext (by show b.val * 1024 + r.val = 1024 * b.val + r.val % 1024; omega))

/-- The result by token and head. -/
theorem out_at (x : FVec Ideal S4x1024x2048 .f32) (b : Fin 4) (r : Fin 1024) (h : Fin 16) (d : Fin 128) :
    shapeCast S4096x16x128 x shapeCasts_S4x1024x2048_S4096x16x128 (ix3 (tok b r.val) h d) = x (ix3 b r (⟨128 * h.val + d.val, by omega⟩ : Fin 2048)) := by
  pointwise
  have ht : (tok b r.val).val = 1024 * b.val + r.val % 1024 := rfl
  have hr := r.isLt
  refine congrArg x (ix3_congr (Fin.ext ?_) (Fin.ext ?_) (Fin.ext ?_))
  · show (tok b r.val).val / 1024 = b.val
    omega
  · show (tok b r.val).val % 1024 = r.val
    omega
  · show h.val * 128 + d.val = 128 * h.val + d.val
    omega

section Whole

variable {Q : FVec Ideal S4x1024x2048 .f32} {K V : FVec Ideal S4x1024x512 .bf16}
  {q : Fin 4096 → Fin 16 → Fin 128 → EReal} {k v : Fin 4096 → Fin 4 → Fin 128 → EReal}
  (hq : ∀ (b : Fin 4) (r : Fin 1024) (h : Fin 16) (e : Fin 128), Q (ix3 b r (⟨128 * h.val + e.val, by omega⟩ : Fin 2048)) = q (tok b r.val) h e)
  (hk : ∀ (b : Fin 4) (r : Fin 1024) (g : Fin 4) (e : Fin 128), K (ix3 b r (⟨128 * g.val + e.val, by omega⟩ : Fin 512)) = k (tok b r.val) g e)
  (hv : ∀ (b : Fin 4) (r : Fin 1024) (g : Fin 4) (e : Fin 128), V (ix3 b r (⟨128 * g.val + e.val, by omega⟩ : Fin 512)) = v (tok b r.val) g e)

/-- The place of a token depends on its remainder only. -/
theorem tok_mod (b : Fin 4) (κ : ℕ) : tok b (κ % 1024) = tok b κ := Fin.ext (by show 1024 * b.val + κ % 1024 % 1024 = 1024 * b.val + κ % 1024; omega)

include hq hk in
/-- A row's logits in the kernel's blocks are those with the scale in the query. -/
theorem logit_eq (b : Fin 4) (h : Fin 16) (r : Fin 1024) (g : ℕ) (hg : g < 4) (R : Fin 1024) (hgh : g = h.val / 4) (hR : R.val = 256 * (h.val % 4) + r.val % 256) :
    logit (qBlock Q b (r.val / 256)) (kvBlock K b) g hg R = innerLogit q k b h r.val := by
  funext κ
  unfold logit innerLogit
  refine Finset.sum_congr rfl fun e _ => congrArg₂ (· * ·) (congrArg (· * unit) ?_) ?_
  · rw [← hq]
    refine congrArg Q (ix3_congr rfl (Fin.ext ?_) (Fin.ext ?_))
    · show (256 * (r.val / 256) + R.val % 256) % 1024 = r.val
      omega
    · show 512 * g + 128 * (R.val / 256) + e.val = 128 * h.val + e.val
      omega
  · rw [← tok_mod, ← hk b ⟨κ % 1024, Nat.mod_lt _ (by norm_num)⟩]
    exact congrArg K (ix3_congr rfl rfl (Fin.ext (by show 128 * g + e.val = 128 * (h.val / 4) + e.val; omega)))

include hv in
/-- A row's values in the kernel's blocks. -/
theorem value_eq (b : Fin 4) (h : Fin 16) (d : Fin 128) (g : ℕ) (hg : g < 4) (hgh : g = h.val / 4) :
    value (kvBlock V b) g hg d = fun κ => v (tok b κ) (kvHead h) d := by
  funext κ
  rw [← tok_mod, ← hv b ⟨κ % 1024, Nat.mod_lt _ (by norm_num)⟩]
  exact congrArg V (ix3_congr rfl rfl (Fin.ext (by show 128 * g + d.val = 128 * (h.val / 4) + d.val; omega)))

include hq hk hv in
/-- The region's array at a row of a head: the row's numerator over its denominator. -/
theorem whole_at (b : Fin 4) (r : Fin 1024) (h : Fin 16) (d : Fin 128) (hp : ∀ κ, innerLogit q k b h r.val κ ≠ ⊤) :
    (whole (F := Ideal) Q K V (ix3 b r (⟨128 * h.val + d.val, by omega⟩ : Fin 2048)) : EReal)
      = Ideal.div (num (upto (innerLogit q k b h r.val) r.val) (fun κ => v (tok b κ) (kvHead h) d) (256 * (r.val / 256) + 256))
          (den (upto (innerLogit q k b h r.val) r.val) (256 * (r.val / 256) + 256)) := by
  have key : ∀ (g : ℕ) (R : Fin 1024) (D : Fin 128), g = h.val / 4 → R.val = 256 * (h.val % 4) + r.val % 256 → D = d →
      (groupV (F := Ideal) (qBlock Q b (r.val / 256)) (kvBlock K b) (kvBlock V b) (r.val / 256) g (ix2 R D) : EReal)
        = Ideal.div (num (upto (innerLogit q k b h r.val) r.val) (fun κ => v (tok b κ) (kvHead h) d) (256 * (r.val / 256) + 256))
          (den (upto (innerLogit q k b h r.val) r.val) (256 * (r.val / 256) + 256)) := by
    intro g R D hgh hR hD
    subst hD
    have hg : g < 4 := by omega
    have hl := logit_eq hq hk b h r g hg R hgh hR
    rw [group_at _ _ _ g hg R _ (fun κ => by rw [hl]; exact hp κ), hl, value_eq hv b h D g hg hgh,
      show 256 * (r.val / 256) + R.val % 256 = r.val by omega]
  unfold whole bodyOut
  refine key _ _ _ ?_ ?_ (Fin.ext ?_)
  · show (128 * h.val + d.val) / 512 = h.val / 4
    omega
  · show (256 * ((128 * h.val + d.val) / 128 % 4) + r.val % 256) % 1024 = 256 * (h.val % 4) + r.val % 256
    omega
  · show (128 * h.val + d.val) % 128 = d.val
    omega

end Whole

/-- The kernel's result at a token, a head and a column. -/
theorem result_at (m : (ℓ : Loc nD τ sig) → Buf (Elt Ideal) ℓ) (c : Dev nD) (q : FVec Ideal S4096x16x128 .f32) (k v : FVec Ideal S4096x4x128 .f32)
    (hq : m ((c : Thread nD τ).loc main_arg0) = q) (hk : m ((c : Thread nD τ).loc main_arg1) = k) (hv : m ((c : Thread nD τ).loc main_arg2) = v)
    (b : Fin 4) (r : Fin 1024) (h : Fin 16) (d : Fin 128)
    (hp : ∀ κ, innerLogit (fun t g e => q (ix3 t g e)) (fun t g e => k (ix3 t g e)) b h r.val κ ≠ ⊤) :
    (result m c (ix3 (tok b r.val) h d) : EReal)
      = Ideal.div (num (upto (innerLogit (fun t g e => q (ix3 t g e)) (fun t g e => k (ix3 t g e)) b h r.val) r.val)
          (fun κ => v (ix3 (tok b κ) (kvHead h) d)) (256 * (r.val / 256) + 256))
        (den (upto (innerLogit (fun t g e => q (ix3 t g e)) (fun t g e => k (ix3 t g e)) b h r.val) r.val) (256 * (r.val / 256) + 256)) := by
  unfold result
  rw [V_q, V_k, V_v, hq, hk, hv]
  refine (out_at _ b r h d).trans ?_
  exact whole_at (q_at q) (k_at k) (v := fun t g e => v (ix3 t g e)) (k_at v) b r h d hp

end Cert.Proof.Value

end
-- ==== Proof.Ref.lean ====
/- The reference's result read at an index: the scaled logits under the causal mask, their softmax, and
   the values it weighs. -/
module

public import proofs.«01_k».proof.Proof.Gen.ReferenceIdeal.Run
public import proofs.«01_k».proof.Proof.Spec
public import Idealize.ShloMosaic.Lib.Pipeline.ValueKit
public import Idealize.ShloMosaic.Lib.Pointwise
public import Idealize.ShloMosaic.Lib.WordCmp

@[expose] public section

set_option maxRecDepth 16384

noncomputable section

namespace Cert.Proof.Ref

open Idealize.ShloMosaic Idealize.ShloMosaic.TcCoe Idealize.ShloMosaic.Tactic Cert.ReferenceIdeal Cert.ReferenceIdeal.Gen
open Cert.Proof.Online Cert.Proof.Spec

section Stages

variable {F : FTy → Type} [FloatOps F]

/-- The queries, or the repeated keys or values, by batch and head. -/
def heads (x : FVec F S4096x16x128 .f32) : FVec F S4x16x1024x128 .f32 :=
  transpose S4x16x1024x128 [0, 2, 1, 3] (shapeCast _ x shapeCasts_S4096x16x128_S4x1024x16x128 : FVec F S4x1024x16x128 .f32) transposes_S4x1024x16x128_S4x16x1024x128_0_2_1_3

/-- The keys, or the values, each repeated for the four query heads it serves. -/
def repeated (x : FVec F S4096x4x128 .f32) : FVec F S4096x16x128 .f32 :=
  shapeCast _ (broadcastInDim S4096x4x4x128 ![0, 1, 3] bcast_S4096x4x128_S4096x4x4x128_0_1_3 x : FVec F S4096x4x4x128 .f32) shapeCasts_S4096x4x4x128_S4096x16x128

/-- The causal mask. -/
def causal : IVec S1024x1024 1 :=
  select (cmpi .sge (addi (iotaInDim S1024x1024 32 0) (broadcastInDim S1024x1024 ![] bcast_S_S1024x1024 (constantI S_ 32 0#32))) (iotaInDim S1024x1024 32 1))
    (broadcastInDim S1024x1024 ![] bcast_S_S1024x1024 (constantI S_ 1 1#1)) (broadcastInDim S1024x1024 ![] bcast_S_S1024x1024 (constantI S_ 1 0#1))

/-- The scaled logits, before the mask. -/
def scaled (q k : FVec F S4x16x1024x128 .f32) : FVec F S4x16x1024x1024 .f32 :=
  Host.divf (Host.dotGeneral dot_S4x16x1024x128_S4x16x1024x128_S4x16x1024x1024_3_3_2_2_01_01 none q k)
    (broadcastInDim S4x16x1024x1024 ![] bcast_S_S4x16x1024x1024 (Host.sqrt (constant S_ .f32 0x43000000#32)))

/-- The logits under the mask. -/
def maskedBy (x : FVec F S4x16x1024x1024 .f32) : FVec F S4x16x1024x1024 .f32 :=
  select (broadcastInDim S4x16x1024x1024 ![0, 1, 2, 3] bcast_S1x1x1024x1024_S4x16x1024x1024_0_1_2_3 (broadcastInDim S1x1x1024x1024 ![2, 3] bcast_S1024x1024_S1x1x1024x1024_2_3 causal))
    x (broadcastInDim S4x16x1024x1024 ![] bcast_S_S4x16x1024x1024 (constant S_ .f32 0xFF800000#32))

/-- The largest logit of each row. -/
def rowTop (x : FVec F S4x16x1024x1024 .f32) : FVec F S4x16x1024 .f32 :=
  maximumf (broadcastInDim S4x16x1024 ![] bcast_S_S4x16x1024 (constant S_ .f32 0xFF800000#32))
    (Host.reduce FloatOps.maximumf x (constant S_ .f32 0xFF800000#32) reducesTo_S4x16x1024x1024_S4x16x1024_d3 h_S_)

/-- A row's figure beside each of its logits. -/
def along (x : FVec F S4x16x1024 .f32) : FVec F S4x16x1024x1024 .f32 :=
  broadcastInDim S4x16x1024x1024 ![0, 1, 2, 3] bcast_S4x16x1024x1_S4x16x1024x1024_0_1_2_3 (broadcastInDim S4x16x1024x1 ![0, 1, 2] bcast_S4x16x1024_S4x16x1024x1_0_1_2 x)

/-- The exponentials of the logits less their row's largest. -/
def shifted (x : FVec F S4x16x1024x1024 .f32) : FVec F S4x16x1024x1024 .f32 := Host.exp (subf x (along (rowTop x)))

/-- The softmax. -/
def weights (x : FVec F S4x16x1024x1024 .f32) : FVec F S4x16x1024x1024 .f32 :=
  Host.divf x (along (Host.reduceAdd x (constant S_ .f32 0x00000000#32) reducesTo_S4x16x1024x1024_S4x16x1024_d3 h_S_))

/-- The weighed values, back in token order. -/
def weighed (w : FVec F S4x16x1024x1024 .f32) (v : FVec F S4x16x1024x128 .f32) : FVec F S4096x16x128 .f32 :=
  shapeCast _ (transpose S4x1024x16x128 [0, 2, 1, 3] (Host.dotGeneral dot_S4x16x1024x1024_S4x16x1024x128_S4x16x1024x128_3_2_2_3_01_01 none w v)
    transposes_S4x16x1024x128_S4x1024x16x128_0_2_1_3 : FVec F S4x1024x16x128 .f32) shapeCasts_S4x1024x16x128_S4096x16x128

/-- The reference's result is its stages, one after the other. -/
theorem res_eq (m : (ℓ : Loc nD τ sig) → Buf (Elt F) ℓ) (c : Dev nD) : Cert.ReferenceIdeal.Value.res_main_v31 m c
    = weighed (weights (shifted (maskedBy (scaled (heads (m ((c.tc : Thread nD τ).loc main_arg0))) (heads (repeated (m ((c.tc : Thread nD τ).loc main_arg1))))))))
        (heads (repeated (m ((c.tc : Thread nD τ).loc main_arg2)))) := rfl

end Stages

/-- Splitting tokens by sequence and moving the heads forward reads token `r` of sequence `b`. -/
theorem heads_at (x : FVec Ideal S4096x16x128 .f32) (b : Fin 4) (h : Fin 16) (r : Fin 1024) (e : Fin 128) :
    heads x (ix4 b h r e) = x (ix3 (⟨1024 * b.val + r.val, by omega⟩ : Fin 4096) h e) := by
  unfold heads
  pointwise
  exact congrArg (fun t => x (ix3 t h e)) (Fin.ext (by show b.val * 1024 + r.val = 1024 * b.val + r.val; omega))

/-- Repeating the key heads gives each query head its group's key head. -/
theorem repeated_at (x : FVec Ideal S4096x4x128 .f32) (t : Fin 4096) (h : Fin 16) (e : Fin 128) :
    repeated x (ix3 t h e) = x (ix3 t (⟨h.val / 4, by omega⟩ : Fin 4) e) := by
  unfold repeated
  pointwise

/-- The causal mask is true where the key is not after the query. -/
theorem causal_at (r k : Fin 1024) : causal (ix2 r k) = BitVec.ofBool (decide (k.val ≤ r.val)) := by
  unfold causal
  pointwise
  rw [show IntOp.addi (BitVec.ofNat 32 r.val) 0#32 = BitVec.ofNat 32 r.val from BitVec.add_zero _,
    (by decide : ∀ c : BitVec 1, Scalar.select c 1#1 0#1 = c)]
  word_cmp

/-- The scale's root. -/
theorem root : Ideal.sqrt (Ideal.ofBits .f32 0x43000000#32) = ((Real.sqrt 128 : ℝ) : EReal) := by
  rw [show Ideal.ofBits .f32 0x43000000#32 = ((128 : ℝ) : EReal) by
    simp [Ideal.ofBits, Ideal.ieee]
    norm_num
    rw [← EReal.coe_mul]
    norm_num, Ideal.sqrt_coe, if_neg (by norm_num)]

/-- A scaled logit is the product of a query with a key over the width, divided by the width's root. -/
theorem scaled_at (q k : FVec Ideal S4x16x1024x128 .f32) (b : Fin 4) (h : Fin 16) (r j : Fin 1024) :
    scaled q k (ix4 b h r j) = Ideal.div (∑ e : Fin 128, (q (ix4 b h r e) : EReal) * (k (ix4 b h j e) : EReal)) (Real.sqrt 128 : ℝ) := by
  unfold scaled
  pointwise
  rw [root]

/-- A masked logit is the logit up to the query's place and minus infinity after it. -/
theorem masked_at (x : FVec Ideal S4x16x1024x1024 .f32) (b : Fin 4) (h : Fin 16) (r j : Fin 1024) :
    maskedBy x (ix4 b h r j) = if j.val ≤ r.val then x (ix4 b h r j) else ⊥ := by
  unfold maskedBy
  pointwise
  rw [causal_at, neg_inf]
  by_cases h : j.val ≤ r.val
  · rw [if_pos h, decide_eq_true h]
    rfl
  · rw [if_neg h, decide_eq_false h]
    rfl

/-- A maximum along the keys is the fold of the row, from the value it starts at. -/
theorem reduce_at (x : FVec Ideal S4x16x1024x1024 .f32) (z : FVec Ideal S_ .f32) (b : Fin 4) (h : Fin 16) (r : Fin 1024) :
    Host.reduce (FloatOps.maximumf (F := Ideal) (φ := .f32)) x z reducesTo_S4x16x1024x1024_S4x16x1024_d3 h_S_ (ix3 b h r)
      = Finset.univ.fold max (z (Shape.Idx.first h_S_)) (fun j : Fin 1024 => x (ix4 b h r j)) := by
  pointwise

/-- The constant the maximum starts at, read at its only place. -/
theorem low_at (i : S_.Idx) : (constant S_ .f32 0xFF800000#32 : FVec Ideal S_ .f32) i = Ideal.ofBits .f32 0xFF800000#32 := rfl

/-- A maximum with minus infinity changes nothing. -/
theorem max_at (R : FVec Ideal S4x16x1024 .f32) (b : Fin 4) (h : Fin 16) (r : Fin 1024) :
    maximumf (broadcastInDim S4x16x1024 ![] bcast_S_S4x16x1024 (constant S_ .f32 0xFF800000#32)) R (ix3 b h r) = R (ix3 b h r) := by
  pointwise
  rw [neg_inf]
  exact max_eq_right bot_le

/-- A row's maximum, started at minus infinity, is the maximum of its logits in order. -/
theorem rowTop_at (x : FVec Ideal S4x16x1024x1024 .f32) (z : FVec Ideal S_ .f32) (b : Fin 4) (h : Fin 16) (r : Fin 1024)
    (hz : z (Shape.Idx.first h_S_) = Ideal.ofBits .f32 0xFF800000#32) :
    Host.reduce (FloatOps.maximumf (F := Ideal) (φ := .f32)) x z reducesTo_S4x16x1024x1024_S4x16x1024_d3 h_S_ (ix3 b h r)
      = Finset.univ.fold max (Ideal.ofBits .f32 0xFF800000#32) (fun j : Fin 1024 => x (ix4 b h r j)) := by
  rw [reduce_at, hz]

/-- The reference's row maximum is the maximum of the row's logits in order. -/
theorem top_at (x : FVec Ideal S4x16x1024x1024 .f32) (b : Fin 4) (h : Fin 16) (r : Fin 1024) :
    rowTop x (ix3 b h r) = Finset.univ.fold max (Ideal.ofBits .f32 0xFF800000#32) (fun j : Fin 1024 => x (ix4 b h r j)) := by
  unfold rowTop
  rw [max_at]
  exact rowTop_at x _ b h r (low_at _)

/-- A shifted logit is the logit less its row's maximum. -/
theorem shifted_at (x : FVec Ideal S4x16x1024x1024 .f32) (b : Fin 4) (h : Fin 16) (r j : Fin 1024) :
    shifted x (ix4 b h r j) = Ideal.exp (x (ix4 b h r j) - rowTop x (ix3 b h r)) := by
  unfold shifted along
  pointwise

/-- A weight is the exponential of the shifted logit over the row's sum of them. -/
theorem weights_at (x : FVec Ideal S4x16x1024x1024 .f32) (b : Fin 4) (h : Fin 16) (r j : Fin 1024) :
    weights x (ix4 b h r j) = Ideal.div (x (ix4 b h r j)) (∑ i : Fin 1024, (x (ix4 b h r i) : EReal)) := by
  unfold weights along
  pointwise

/-- A result is the sum over the keys of weight times value. -/
theorem weighed_at (w : FVec Ideal S4x16x1024x1024 .f32) (v : FVec Ideal S4x16x1024x128 .f32) (b : Fin 4) (r : Fin 1024) (h : Fin 16) (d : Fin 128) :
    weighed w v (ix3 (⟨1024 * b.val + r.val, by omega⟩ : Fin 4096) h d) = ∑ j : Fin 1024, (w (ix4 b h r j) : EReal) * (v (ix4 b h j d) : EReal) := by
  unfold weighed
  pointwise

/-- The masked logits of a row are its logits up to the row's own place. -/
theorem logit_at (q : FVec Ideal S4096x16x128 .f32) (k : FVec Ideal S4096x4x128 .f32) (b : Fin 4) (h : Fin 16) (r j : Fin 1024) :
    maskedBy (scaled (heads q) (heads (repeated k))) (ix4 b h r j)
      = upto (outerLogit (fun t g e => q (ix3 t g e)) (fun t g e => k (ix3 t g e)) b h r.val) r.val j.val := by
  have ht : ∀ i : Fin 1024, (⟨1024 * b.val + i.val, by omega⟩ : Fin 4096) = tok b i.val :=
    fun i => Fin.ext (by show 1024 * b.val + i.val = 1024 * b.val + i.val % 1024; omega)
  rw [masked_at, scaled_at]
  simp only [heads_at, repeated_at, ht]
  rfl

/-- The reference's result at a token, a head and a column: the row's softmax average of the values. -/
theorem ref_at (q : FVec Ideal S4096x16x128 .f32) (k v : FVec Ideal S4096x4x128 .f32) (b : Fin 4) (h : Fin 16) (r : Fin 1024) (d : Fin 128)
    (t : ℕ → EReal) (ht : t = upto (outerLogit (fun t g e => q (ix3 t g e)) (fun t g e => k (ix3 t g e)) b h r.val) r.val) :
    weighed (weights (shifted (maskedBy (scaled (heads q) (heads (repeated k)))))) (heads (repeated v)) (ix3 (tok b r.val) h d)
      = ∑ κ ∈ Finset.range 1024, Ideal.div (Ideal.exp (t κ - top t 1024)) (∑ j ∈ Finset.range 1024, Ideal.exp (t j - top t 1024))
          * (v (ix3 (tok b κ) (kvHead h) d) : EReal) := by
  have hk : ∀ i : Fin 1024, (⟨1024 * b.val + i.val, by omega⟩ : Fin 4096) = tok b i.val :=
    fun i => Fin.ext (by show 1024 * b.val + i.val = 1024 * b.val + i.val % 1024; omega)
  have hx : ∀ j : Fin 1024, maskedBy (scaled (heads q) (heads (repeated k))) (ix4 b h r j) = t j.val := fun j => by rw [logit_at, ht]
  generalize maskedBy (scaled (heads q) (heads (repeated k))) = x at hx ⊢
  have hs : ∀ j : Fin 1024, shifted x (ix4 b h r j) = Ideal.exp (t j.val - top t 1024) := fun j => by
    rw [shifted_at, top_at, hx, fold_block _ t hx]
    rfl
  have hw : ∀ j : Fin 1024, weights (shifted x) (ix4 b h r j)
      = Ideal.div (Ideal.exp (t j.val - top t 1024)) (∑ j ∈ Finset.range 1024, Ideal.exp (t j - top t 1024)) := fun j => by
    rw [weights_at, hs, sum_block _ (fun j => Ideal.exp (t j - top t 1024)) hs]
  rw [← hk, weighed_at]
  refine sum_block _ (fun κ => Ideal.div (Ideal.exp (t κ - top t 1024)) (∑ j ∈ Finset.range 1024, Ideal.exp (t j - top t 1024))
    * (v (ix3 (tok b κ) (kvHead h) d) : EReal)) fun j => ?_
  rw [hw, heads_at, repeated_at, hk]
  rfl

end Cert.Proof.Ref

end
-- ==== Proof.Finite.lean ====
/- What the precondition says: every query and every key is a real number. -/
module

public import proofs.«01_k».proof.Pre_finite_qk
public import proofs.«01_k».proof.Proof.Gen.Pre_finite_qk
public import Idealize.ShloMosaic.PureOps.Ideal
public import Idealize.ShloMosaic.Lib.ReduceAll

@[expose] public section

noncomputable section

namespace Cert.Proof.Finite

open Idealize.ShloMosaic Cert.Pre_finite_qk

/-- The infinity's word. -/
theorem inf_val : Ideal.ofBits .f32 0x7F800000#32 = ⊤ := by simp [Ideal.ofBits, Ideal.ieee]

/-- A value whose magnitude is less than infinity is real. -/
theorem real_of_lt (x : EReal) (h : Ideal.cmp .olt (max x (-x)) (Ideal.ofBits .f32 0x7F800000#32) = 1#1) : ∃ y : ℝ, x = y := by
  rw [inf_val] at h
  induction x with
  | bot => simp [Ideal.cmp] at h
  | top => simp [Ideal.cmp] at h
  | coe y => exact ⟨y, rfl⟩

/-- The precondition gives each query and each key its real value. -/
theorem real [Facts] {q : FVec Ideal S4096x16x128 .f32} {k v : FVec Ideal S4096x4x128 .f32} {a : IVec S5 32}
    (h : fn (F := Ideal) q k v a = fun _ => 1#1) : (∀ i, ∃ x : ℝ, (q i : EReal) = x) ∧ ∀ i, ∃ x : ℝ, (k i : EReal) = x := by
  have h0 := congrFun h (fun a => a.elim0)
  dsimp only [fn] at h0
  obtain ⟨h1, h2⟩ := IntOp.andi_eq_one.1 h0
  haveI : Subsingleton S_.Idx := ⟨fun a b => funext fun i => i.elim0⟩
  exact ⟨fun i => real_of_lt _ (Host.reduce_andi_all _ _ _ _ _ h1 i), fun i => real_of_lt _ (Host.reduce_andi_all _ _ _ _ _ h2 i)⟩

end Cert.Proof.Finite

end
-- ==== Proof.Claims.lean ====
/- The claims, each proved: the three frames, the ledger of the named constants, and the equality of the
   kernel's and the reference's results. -/
module

public import proofs.«01_k».proof.Defs
public import proofs.«01_k».proof.Proof.Gen.Kernel.Frame
public import proofs.«01_k».proof.Proof.Value
public import proofs.«01_k».proof.Proof.Ref
public import proofs.«01_k».proof.Proof.Finite
public import Idealize.ShloMosaic.Lib.Quiescent

@[expose] public section

noncomputable section

namespace Cert.Proof.Claims

open Idealize.ShloMosaic Idealize.ShloMosaic.TcCoe Idealize.ShloMosaic.Tactic Idealize.SL.Sem
open Cert.Proof.Spec Cert.Proof.Online

/-- The kernel runs and leaves its arguments and the counters as they were. -/
theorem frame_p : Cert.quiescent_Kernel := fun m ρ _ => Cert.Kernel.Gen.frame m ρ

/-- The kernel over the extended reals likewise. -/
theorem frame_pi : Cert.quiescent_KernelIdeal := fun m ρ _ => Cert.KernelIdeal.Gen.frame m ρ

/-- The kernel over the extended reals likewise, under the precondition. -/
theorem frame_pi_pre : Cert.quiescent_KernelIdeal_pre_finite_qk := fun m ρ _ => Cert.KernelIdeal.Gen.frame m ρ

/-- The reference runs and leaves its arguments and the counters as they were. -/
theorem frame_ri : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The reference likewise, under the precondition. -/
theorem frame_ri_pre : Cert.quiescent_ReferenceIdeal_pre_finite_qk := fun m ρ _ => frame_ri m ρ trivial

/-- The two named constants are what the ledger says. -/
theorem preserves : Cert.preserves_Kernel_KernelIdeal :=
  ⟨IdealRules.named_const.statement Cert.KernelIdeal.κ "scale_log2e" .f32 0x3E0293EE#32 (((Real.sqrt 128)⁻¹ * (Real.log 2)⁻¹ : ℝ) : EReal) rfl,
    IdealRules.named_const.statement Cert.KernelIdeal.κ "mask" .f32 0xF149F2CA#32 ⊥ rfl⟩

section Same

variable (m : (ℓ : Loc Cert.KernelIdeal.nD Cert.KernelIdeal.τ Cert.KernelIdeal.sig) → Buf (Elt Ideal) ℓ) (c : Dev Cert.KernelIdeal.nD)
  {q : FVec Ideal Cert.KernelIdeal.S4096x16x128 .f32} {k v : FVec Ideal Cert.KernelIdeal.S4096x4x128 .f32}
  (hq : m ((c : Thread Cert.KernelIdeal.nD Cert.KernelIdeal.τ).loc Cert.KernelIdeal.main_arg0) = q)
  (hk : m ((c : Thread Cert.KernelIdeal.nD Cert.KernelIdeal.τ).loc Cert.KernelIdeal.main_arg1) = k)
  (hv : m ((c : Thread Cert.KernelIdeal.nD Cert.KernelIdeal.τ).loc Cert.KernelIdeal.main_arg2) = v)
  (hQ : ∀ i, ∃ x : ℝ, (q i : EReal) = x) (hK : ∀ i, ∃ x : ℝ, (k i : EReal) = x)

/-- The reference's result as a function of its arguments. -/
def reference (q : FVec Ideal Cert.KernelIdeal.S4096x16x128 .f32) (k v : FVec Ideal Cert.KernelIdeal.S4096x4x128 .f32) :
    FVec Ideal Cert.KernelIdeal.S4096x16x128 .f32 :=
  Ref.weighed (Ref.weights (Ref.shifted (Ref.maskedBy (Ref.scaled (Ref.heads q) (Ref.heads (Ref.repeated k)))))) (Ref.heads (Ref.repeated v))

include hq hk hv hQ hK in
/-- The two results agree at a token, a head and a column. -/
theorem same_at (b : Fin 4) (r : Fin 1024) (h : Fin 16) (d : Fin 128) :
    (Final.result m c (ix3 (tok b r.val) h d) : EReal) = reference q k v (ix3 (tok b r.val) h d) := by
  have hQ' : ∀ t g e, ∃ x : ℝ, (q (ix3 t g e) : EReal) = x := fun t g e => hQ _
  have hK' : ∀ t g e, ∃ x : ℝ, (k (ix3 t g e) : EReal) = x := fun t g e => hK _
  refine (Value.result_at m c q k v hq hk hv b r h d fun κ => ?_).trans ?_
  · obtain ⟨x, -, hx⟩ := logits (fun t g e => q (ix3 t g e)) (fun t g e => k (ix3 t g e)) b h r.val hQ' hK' κ
    rw [hx, ← EReal.coe_mul]
    exact EReal.coe_ne_top _
  · rw [meet (fun t g e => q (ix3 t g e)) (fun t g e => k (ix3 t g e)) b h r.val hQ' hK' r.isLt]
    exact (Ref.ref_at q k v b h r d _ rfl).symm

include hq hk hv hQ hK in
/-- The two results agree. -/
theorem same : Final.result m c = reference q k v := by
  funext y
  have h0 : (y 0).val < 4096 := (y 0).isLt
  have hy : y = ix3 (tok ⟨(y 0).val / 1024, by omega⟩ (⟨(y 0).val % 1024, Nat.mod_lt _ (by norm_num)⟩ : Fin 1024).val) (y 1) (y 2) := by
    funext a
    match a with
    | ⟨0, _⟩ => exact Fin.ext (by show (y 0).val = 1024 * ((y 0).val / 1024) + (y 0).val % 1024 % 1024; omega)
    | ⟨1, _⟩ => rfl
    | ⟨2, _⟩ => rfl
  rw [hy]
  exact same_at m c hq hk hv hQ hK _ _ _ _

end Same

/-- Over the extended reals, on finite queries and keys, the kernel returns what the reference returns. -/
theorem algebraic : Cert.algebraic_KernelIdeal_ReferenceIdeal_pre_finite_qk := by
  intro m ρ m' ρ' hpre hagree
  refine ⟨_, Final.run (F := Ideal) m ρ, ?_⟩
  refine (θ_run Cert.ReferenceIdeal.defs _ _).mono (fun _ h c => ⟨(h c).1.trans ?_, (h c).2⟩) (Cert.ReferenceIdeal.Value.run (F := Ideal) m' ρ')
  obtain ⟨a0, a1, a2, -⟩ := hagree c
  obtain ⟨hQ, hK⟩ := Finite.real (hpre c)
  refine (Ref.res_eq m' c).trans ?_
  rw [a0, a1, a2]
  exact (same m c rfl rfl rfl hQ hK).symm

end Cert.Proof.Claims

end
-- ==== Proof.lean ====
/- The certificate: every claim of `Cert.Claim`, proved in `Claims`. -/
module

public import proofs.«01_k».proof.Defs
public import proofs.«01_k».proof.Proof.Claims

@[expose] public section

noncomputable section

namespace Cert.Proof

/-- Every claim holds. -/
theorem claim : Cert.Claim :=
  ⟨Cert.Kernel.Gen.facts, Cert.KernelIdeal.Gen.facts, Cert.ReferenceIdeal.Gen.facts, Cert.Pre_finite_qk.Gen.facts,
    Claims.frame_p, Claims.frame_pi, Claims.frame_pi_pre, Claims.frame_ri, Claims.frame_ri_pre, Claims.preserves, Claims.algebraic⟩

end Cert.Proof

end
